-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 128]⟩ ⟨2, ![1024, 1024]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![1024, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x128 : Shape := ⟨2, ![1024, 128]⟩
abbrev S128x1024 : Shape := ⟨2, ![128, 1024]⟩
abbrev S7x128x1024 : Shape := ⟨3, ![7, 128, 1024]⟩
abbrev S12x128x1024 : Shape := ⟨3, ![12, 128, 1024]⟩
abbrev S7 : Shape := ⟨1, ![7]⟩
abbrev S12 : Shape := ⟨1, ![12]⟩
abbrev S_ : Shape := ⟨0, ![]⟩
abbrev S128x128 : Shape := ⟨2, ![128, 128]⟩
abbrev S1x128x1024 : Shape := ⟨3, ![1, 128, 1024]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S1024x128, .f32⟩
  | .hbm, ⟨1, _⟩ => ⟨S128x1024, .f32⟩
  | .hbm, ⟨2, _⟩ => ⟨S128x1024, .f32⟩
  | .local _ .vmem, ⟨0, _⟩ => ⟨S1024x128, .f32⟩
  | .local _ .vmem, ⟨1, _⟩ => ⟨S128x1024, .f32⟩
  | .local _ .vmem, ⟨2, _⟩ => ⟨S128x1024, .f32⟩
  | .local _ .vmem, ⟨3, _⟩ => ⟨S7x128x1024, .bf16⟩
  | .local _ .vmem, ⟨4, _⟩ => ⟨S12x128x1024, .bf16⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_159 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_158 : BitVec 32 := 1#32
  let v340 : BitVec 32 := Scalar.muli v288 c1_i32_158
  let v341 : BitVec 32 := Scalar.addi c0_i32_159 v340
  v341.toNat
def k0_dev2 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_161 : BitVec 32 := 1#32
  let v342 : BitVec 32 := Scalar.muli v313 c1_i32_161
  let v343 : BitVec 32 := Scalar.addi c0_i32_162 v342
  v343.toNat
def k0_dev3 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_164 : BitVec 32 := 1#32
  let v344 : BitVec 32 := Scalar.muli v338 c1_i32_164
  let v345 : BitVec 32 := Scalar.addi c0_i32_165 v344
  v345.toNat
def k0_off1 (d0 : Dev nD) (c1_i32_108 : BitVec 32) (c1_i32_109 : BitVec 32) (c1_i32_110 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let v237 : BitVec 32 := Scalar.xori v57 c1_i32_108
  let c2_i32_111 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let v238 : BitVec 32 := Scalar.xori v74 c1_i32_109
  let v240 : BitVec 32 := Scalar.muli c2_i32_111 v238
  let v241 : BitVec 32 := Scalar.addi v237 v240
  let c0_i32_113 : BitVec 32 := 0#32
  let v243 : BitVec 1 := Scalar.cmpi .sgt v241 c0_i32_113
  let v244 : BitVec 32 := Scalar.extui v243
  let c0_i32_114 : BitVec 32 := 0#32
  let v245 : BitVec 1 := Scalar.cmpi .slt v241 c0_i32_114
  let v246 : BitVec 32 := Scalar.extui v245
  let v247 : BitVec 32 := Scalar.subi v244 v246
  let c2_i32_112 : BitVec 32 := 2#32
  let c0_i32_115 : BitVec 32 := 0#32
  let v248 : BitVec 1 := Scalar.cmpi .sgt c2_i32_112 c0_i32_115
  let v249 : BitVec 32 := Scalar.extui v248
  let c0_i32_116 : BitVec 32 := 0#32
  let v250 : BitVec 1 := Scalar.cmpi .slt c2_i32_112 c0_i32_116
  let v251 : BitVec 32 := Scalar.extui v250
  let v252 : BitVec 32 := Scalar.subi v249 v251
  let v253 : BitVec 1 := Scalar.cmpi .ne v247 v252
  let v254 : BitVec 32 := Scalar.remsi v241 c2_i32_112
  let c0_i32_117 : BitVec 32 := 0#32
  let v255 : BitVec 1 := Scalar.cmpi .ne v254 c0_i32_117
  let v256 : BitVec 1 := Scalar.andi v253 v255
  let v242 : BitVec 32 := Scalar.divsi v241 c2_i32_112
  let c1_i32_118 : BitVec 32 := 1#32
  let v257 : BitVec 32 := Scalar.subi v242 c1_i32_118
  let v258 : BitVec 32 := Scalar.select v256 v257 v242
  let v259 : BitVec 32 := Scalar.xori v241 v258
  let c4_i32_119 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v239 : BitVec 32 := Scalar.xori v19 c1_i32_110
  let v260 : BitVec 32 := Scalar.muli c4_i32_119 v239
  let v261 : BitVec 32 := Scalar.addi v259 v260
  let c128_i32 : BitVec 32 := 128#32
  let v346 : BitVec 32 := Scalar.muli v261 c128_i32
  let v347 : Index := Scalar.indexCast v346
  let c0 : Index := 0#32
  ![v347.toNat, 0]
def k0_off1_at (r : Fin 7) : BitVec 32 × BitVec 32 × BitVec 32 :=
  if r.val < 3 then
    if r.val < 1 then
      (1#32, 1#32, 1#32)
    else
      if r.val < 2 then
        (1#32, 1#32, 0#32)
      else
        (1#32, 0#32, 1#32)
  else
    if r.val < 5 then
      if r.val < 4 then
        (0#32, 1#32, 1#32)
      else
        (1#32, 0#32, 0#32)
    else
      if r.val < 6 then
        (0#32, 1#32, 0#32)
      else
        (0#32, 0#32, 1#32)
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_109 : BitVec 32 := 1#32
  let v238 : BitVec 32 := Scalar.xori v74 c1_i32_109
  let c1_i32_120 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_108 : BitVec 32 := 1#32
  let v237 : BitVec 32 := Scalar.xori v57 c1_i32_108
  let v262 : BitVec 32 := Scalar.addi c1_i32_120 v237
  let v263 : BitVec 32 := Scalar.muli v238 v262
  let c0_i32_170 : BitVec 32 := 0#32
  let v357 : BitVec 1 := Scalar.cmpi .eq v263 c0_i32_170
  let v358 : BitVec 32 := Scalar.extui v357
  let c0_i32_171 : BitVec 32 := 0#32
  let v359 : BitVec 1 := Scalar.cmpi .ne v358 c0_i32_171
  v359

def k0_dev4 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_365 : BitVec 32 := 1#32
  let v574 : BitVec 32 := Scalar.muli v288 c1_i32_365
  let v575 : BitVec 32 := Scalar.addi c0_i32_366 v574
  v575.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_109 : BitVec 32 := 1#32
  let v238 : BitVec 32 := Scalar.xori v74 c1_i32_109
  let c1_i32_120 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_108 : BitVec 32 := 1#32
  let v237 : BitVec 32 := Scalar.xori v57 c1_i32_108
  let v262 : BitVec 32 := Scalar.addi c1_i32_120 v237
  let v263 : BitVec 32 := Scalar.muli v238 v262
  let c1_i32_172 : BitVec 32 := 1#32
  let v360 : BitVec 1 := Scalar.cmpi .eq v263 c1_i32_172
  let v361 : BitVec 32 := Scalar.extui v360
  let c0_i32_173 : BitVec 32 := 0#32
  let v362 : BitVec 1 := Scalar.cmpi .ne v361 c0_i32_173
  v362

def k0_dev5 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_365 : BitVec 32 := 1#32
  let v574 : BitVec 32 := Scalar.muli v313 c1_i32_365
  let v575 : BitVec 32 := Scalar.addi c0_i32_366 v574
  v575.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_109 : BitVec 32 := 1#32
  let v238 : BitVec 32 := Scalar.xori v74 c1_i32_109
  let c1_i32_120 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_108 : BitVec 32 := 1#32
  let v237 : BitVec 32 := Scalar.xori v57 c1_i32_108
  let v262 : BitVec 32 := Scalar.addi c1_i32_120 v237
  let v263 : BitVec 32 := Scalar.muli v238 v262
  let c2_i32_174 : BitVec 32 := 2#32
  let v363 : BitVec 1 := Scalar.cmpi .eq v263 c2_i32_174
  let v364 : BitVec 32 := Scalar.extui v363
  let c0_i32_175 : BitVec 32 := 0#32
  let v365 : BitVec 1 := Scalar.cmpi .ne v364 c0_i32_175
  v365

def k0_dev6 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_365 : BitVec 32 := 1#32
  let v574 : BitVec 32 := Scalar.muli v338 c1_i32_365
  let v575 : BitVec 32 := Scalar.addi c0_i32_366 v574
  v575.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_57 : BitVec 32 := 1#32
  let v130 : BitVec 32 := Scalar.xori v74 c1_i32_57
  let c1_i32_68 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_56 : BitVec 32 := 1#32
  let v129 : BitVec 32 := Scalar.xori v57 c1_i32_56
  let v154 : BitVec 32 := Scalar.addi c1_i32_68 v129
  let v155 : BitVec 32 := Scalar.muli v130 v154
  let c0_i32_183 : BitVec 32 := 0#32
  let v377 : BitVec 1 := Scalar.cmpi .eq v155 c0_i32_183
  let v378 : BitVec 32 := Scalar.extui v377
  let c0_i32_184 : BitVec 32 := 0#32
  let v379 : BitVec 1 := Scalar.cmpi .ne v378 c0_i32_184
  v379

def k0_dev7 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_366 : BitVec 32 := 1#32
  let v574 : BitVec 32 := Scalar.muli v288 c1_i32_366
  let v575 : BitVec 32 := Scalar.addi c0_i32_367 v574
  v575.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_57 : BitVec 32 := 1#32
  let v130 : BitVec 32 := Scalar.xori v74 c1_i32_57
  let c1_i32_68 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_56 : BitVec 32 := 1#32
  let v129 : BitVec 32 := Scalar.xori v57 c1_i32_56
  let v154 : BitVec 32 := Scalar.addi c1_i32_68 v129
  let v155 : BitVec 32 := Scalar.muli v130 v154
  let c1_i32_185 : BitVec 32 := 1#32
  let v380 : BitVec 1 := Scalar.cmpi .eq v155 c1_i32_185
  let v381 : BitVec 32 := Scalar.extui v380
  let c0_i32_186 : BitVec 32 := 0#32
  let v382 : BitVec 1 := Scalar.cmpi .ne v381 c0_i32_186
  v382

def k0_dev8 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_366 : BitVec 32 := 1#32
  let v574 : BitVec 32 := Scalar.muli v313 c1_i32_366
  let v575 : BitVec 32 := Scalar.addi c0_i32_367 v574
  v575.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_83 : BitVec 32 := 0#32
  let v184 : BitVec 32 := Scalar.xori v74 c0_i32_83
  let c1_i32_94 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_82 : BitVec 32 := 1#32
  let v183 : BitVec 32 := Scalar.xori v57 c1_i32_82
  let v208 : BitVec 32 := Scalar.addi c1_i32_94 v183
  let v209 : BitVec 32 := Scalar.muli v184 v208
  let c0_i32_194 : BitVec 32 := 0#32
  let v394 : BitVec 1 := Scalar.cmpi .eq v209 c0_i32_194
  let v395 : BitVec 32 := Scalar.extui v394
  let c0_i32_195 : BitVec 32 := 0#32
  let v396 : BitVec 1 := Scalar.cmpi .ne v395 c0_i32_195
  v396

def k0_dev9 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_365 : BitVec 32 := 1#32
  let v574 : BitVec 32 := Scalar.muli v288 c1_i32_365
  let v575 : BitVec 32 := Scalar.addi c0_i32_366 v574
  v575.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_83 : BitVec 32 := 0#32
  let v184 : BitVec 32 := Scalar.xori v74 c0_i32_83
  let c1_i32_94 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_82 : BitVec 32 := 1#32
  let v183 : BitVec 32 := Scalar.xori v57 c1_i32_82
  let v208 : BitVec 32 := Scalar.addi c1_i32_94 v183
  let v209 : BitVec 32 := Scalar.muli v184 v208
  let c2_i32_196 : BitVec 32 := 2#32
  let v397 : BitVec 1 := Scalar.cmpi .eq v209 c2_i32_196
  let v398 : BitVec 32 := Scalar.extui v397
  let c0_i32_197 : BitVec 32 := 0#32
  let v399 : BitVec 1 := Scalar.cmpi .ne v398 c0_i32_197
  v399

def k0_dev10 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_366 : BitVec 32 := 1#32
  let v574 : BitVec 32 := Scalar.muli v338 c1_i32_366
  let v575 : BitVec 32 := Scalar.addi c0_i32_367 v574
  v575.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_96 : BitVec 32 := 1#32
  let v211 : BitVec 32 := Scalar.xori v74 c1_i32_96
  let c1_i32_107 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_95 : BitVec 32 := 0#32
  let v210 : BitVec 32 := Scalar.xori v57 c0_i32_95
  let v235 : BitVec 32 := Scalar.addi c1_i32_107 v210
  let v236 : BitVec 32 := Scalar.muli v211 v235
  let c1_i32_205 : BitVec 32 := 1#32
  let v411 : BitVec 1 := Scalar.cmpi .eq v236 c1_i32_205
  let v412 : BitVec 32 := Scalar.extui v411
  let c0_i32_206 : BitVec 32 := 0#32
  let v413 : BitVec 1 := Scalar.cmpi .ne v412 c0_i32_206
  v413

def k0_dev11 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_365 : BitVec 32 := 1#32
  let v574 : BitVec 32 := Scalar.muli v313 c1_i32_365
  let v575 : BitVec 32 := Scalar.addi c0_i32_366 v574
  v575.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_96 : BitVec 32 := 1#32
  let v211 : BitVec 32 := Scalar.xori v74 c1_i32_96
  let c1_i32_107 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_95 : BitVec 32 := 0#32
  let v210 : BitVec 32 := Scalar.xori v57 c0_i32_95
  let v235 : BitVec 32 := Scalar.addi c1_i32_107 v210
  let v236 : BitVec 32 := Scalar.muli v211 v235
  let c2_i32_207 : BitVec 32 := 2#32
  let v414 : BitVec 1 := Scalar.cmpi .eq v236 c2_i32_207
  let v415 : BitVec 32 := Scalar.extui v414
  let c0_i32_208 : BitVec 32 := 0#32
  let v416 : BitVec 1 := Scalar.cmpi .ne v415 c0_i32_208
  v416

def k0_dev12 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_366 : BitVec 32 := 1#32
  let v574 : BitVec 32 := Scalar.muli v338 c1_i32_366
  let v575 : BitVec 32 := Scalar.addi c0_i32_367 v574
  v575.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_31 : BitVec 32 := 0#32
  let v76 : BitVec 32 := Scalar.xori v74 c0_i32_31
  let c1_i32_42 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v75 : BitVec 32 := Scalar.xori v57 c1_i32_30
  let v100 : BitVec 32 := Scalar.addi c1_i32_42 v75
  let v101 : BitVec 32 := Scalar.muli v76 v100
  let c0_i32_217 : BitVec 32 := 0#32
  let v428 : BitVec 1 := Scalar.cmpi .eq v101 c0_i32_217
  let v429 : BitVec 32 := Scalar.extui v428
  let c0_i32_218 : BitVec 32 := 0#32
  let v430 : BitVec 1 := Scalar.cmpi .ne v429 c0_i32_218
  v430

def k0_dev13 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_366 : BitVec 32 := 1#32
  let v574 : BitVec 32 := Scalar.muli v288 c1_i32_366
  let v575 : BitVec 32 := Scalar.addi c0_i32_367 v574
  v575.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_44 : BitVec 32 := 1#32
  let v103 : BitVec 32 := Scalar.xori v74 c1_i32_44
  let c1_i32_55 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_43 : BitVec 32 := 0#32
  let v102 : BitVec 32 := Scalar.xori v57 c0_i32_43
  let v127 : BitVec 32 := Scalar.addi c1_i32_55 v102
  let v128 : BitVec 32 := Scalar.muli v103 v127
  let c1_i32_226 : BitVec 32 := 1#32
  let v442 : BitVec 1 := Scalar.cmpi .eq v128 c1_i32_226
  let v443 : BitVec 32 := Scalar.extui v442
  let c0_i32_227 : BitVec 32 := 0#32
  let v444 : BitVec 1 := Scalar.cmpi .ne v443 c0_i32_227
  v444

def k0_dev14 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_366 : BitVec 32 := 1#32
  let v574 : BitVec 32 := Scalar.muli v313 c1_i32_366
  let v575 : BitVec 32 := Scalar.addi c0_i32_367 v574
  v575.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_70 : BitVec 32 := 0#32
  let v157 : BitVec 32 := Scalar.xori v74 c0_i32_70
  let c1_i32_81 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_69 : BitVec 32 := 0#32
  let v156 : BitVec 32 := Scalar.xori v57 c0_i32_69
  let v181 : BitVec 32 := Scalar.addi c1_i32_81 v156
  let v182 : BitVec 32 := Scalar.muli v157 v181
  let c2_i32_235 : BitVec 32 := 2#32
  let v456 : BitVec 1 := Scalar.cmpi .eq v182 c2_i32_235
  let v457 : BitVec 32 := Scalar.extui v456
  let c0_i32_236 : BitVec 32 := 0#32
  let v458 : BitVec 1 := Scalar.cmpi .ne v457 c0_i32_236
  v458

def k0_dev15 (d0 : Dev nD) : Nat :=
  let c0_i32_367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_366 : BitVec 32 := 1#32
  let v574 : BitVec 32 := Scalar.muli v338 c1_i32_366
  let v575 : BitVec 32 := Scalar.addi c0_i32_367 v574
  v575.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_237 : BitVec 32 := 128#32
  let v459 : BitVec 32 := Scalar.muli v2 c128_i32_237
  let v460 : Index := Scalar.indexCast v459
  let c0_238 : Index := 0#32
  ![v460.toNat, 0]
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_31 : BitVec 32 := 0#32
  let v76 : BitVec 32 := Scalar.xori v74 c0_i32_31
  let c1_i32_42 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v75 : BitVec 32 := Scalar.xori v57 c1_i32_30
  let v100 : BitVec 32 := Scalar.addi c1_i32_42 v75
  let v101 : BitVec 32 := Scalar.muli v76 v100
  let c2_i32_242 : BitVec 32 := 2#32
  let v466 : BitVec 1 := Scalar.cmpi .eq v101 c2_i32_242
  let v467 : BitVec 32 := Scalar.extui v466
  let c0_i32_243 : BitVec 32 := 0#32
  let v468 : BitVec 1 := Scalar.cmpi .ne v467 c0_i32_243
  v468

def k0_dev16 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_385 : BitVec 32 := 1#32
  let v590 : BitVec 32 := Scalar.muli v288 c1_i32_385
  let v591 : BitVec 32 := Scalar.addi c0_i32_386 v590
  v591.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_44 : BitVec 32 := 1#32
  let v103 : BitVec 32 := Scalar.xori v74 c1_i32_44
  let c1_i32_55 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_43 : BitVec 32 := 0#32
  let v102 : BitVec 32 := Scalar.xori v57 c0_i32_43
  let v127 : BitVec 32 := Scalar.addi c1_i32_55 v102
  let v128 : BitVec 32 := Scalar.muli v103 v127
  let c0_i32_244 : BitVec 32 := 0#32
  let v469 : BitVec 1 := Scalar.cmpi .eq v128 c0_i32_244
  let v470 : BitVec 32 := Scalar.extui v469
  let c0_i32_245 : BitVec 32 := 0#32
  let v471 : BitVec 1 := Scalar.cmpi .ne v470 c0_i32_245
  v471

def k0_dev17 (d0 : Dev nD) : Nat :=
  let c0_i32_386 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_385 : BitVec 32 := 1#32
  let v590 : BitVec 32 := Scalar.muli v313 c1_i32_385
  let v591 : BitVec 32 := Scalar.addi c0_i32_386 v590
  v591.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_57 : BitVec 32 := 1#32
  let v130 : BitVec 32 := Scalar.xori v74 c1_i32_57
  let c1_i32_68 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_56 : BitVec 32 := 1#32
  let v129 : BitVec 32 := Scalar.xori v57 c1_i32_56
  let v154 : BitVec 32 := Scalar.addi c1_i32_68 v129
  let v155 : BitVec 32 := Scalar.muli v130 v154
  let c2_i32_246 : BitVec 32 := 2#32
  let v472 : BitVec 1 := Scalar.cmpi .eq v155 c2_i32_246
  let v473 : BitVec 32 := Scalar.extui v472
  let c0_i32_247 : BitVec 32 := 0#32
  let v474 : BitVec 1 := Scalar.cmpi .ne v473 c0_i32_247
  v474

def k0_dev18 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_383 : BitVec 32 := 1#32
  let v590 : BitVec 32 := Scalar.muli v288 c1_i32_383
  let v591 : BitVec 32 := Scalar.addi c0_i32_384 v590
  v591.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_70 : BitVec 32 := 0#32
  let v157 : BitVec 32 := Scalar.xori v74 c0_i32_70
  let c1_i32_81 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_69 : BitVec 32 := 0#32
  let v156 : BitVec 32 := Scalar.xori v57 c0_i32_69
  let v181 : BitVec 32 := Scalar.addi c1_i32_81 v156
  let v182 : BitVec 32 := Scalar.muli v157 v181
  let c1_i32_248 : BitVec 32 := 1#32
  let v475 : BitVec 1 := Scalar.cmpi .eq v182 c1_i32_248
  let v476 : BitVec 32 := Scalar.extui v475
  let c0_i32_249 : BitVec 32 := 0#32
  let v477 : BitVec 1 := Scalar.cmpi .ne v476 c0_i32_249
  v477

def k0_dev19 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_383 : BitVec 32 := 1#32
  let v590 : BitVec 32 := Scalar.muli v338 c1_i32_383
  let v591 : BitVec 32 := Scalar.addi c0_i32_384 v590
  v591.toNat
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_83 : BitVec 32 := 0#32
  let v184 : BitVec 32 := Scalar.xori v74 c0_i32_83
  let c1_i32_94 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_82 : BitVec 32 := 1#32
  let v183 : BitVec 32 := Scalar.xori v57 c1_i32_82
  let v208 : BitVec 32 := Scalar.addi c1_i32_94 v183
  let v209 : BitVec 32 := Scalar.muli v184 v208
  let c1_i32_250 : BitVec 32 := 1#32
  let v478 : BitVec 1 := Scalar.cmpi .eq v209 c1_i32_250
  let v479 : BitVec 32 := Scalar.extui v478
  let c0_i32_251 : BitVec 32 := 0#32
  let v480 : BitVec 1 := Scalar.cmpi .ne v479 c0_i32_251
  v480

def k0_dev20 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_383 : BitVec 32 := 1#32
  let v590 : BitVec 32 := Scalar.muli v338 c1_i32_383
  let v591 : BitVec 32 := Scalar.addi c0_i32_384 v590
  v591.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_96 : BitVec 32 := 1#32
  let v211 : BitVec 32 := Scalar.xori v74 c1_i32_96
  let c1_i32_107 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_95 : BitVec 32 := 0#32
  let v210 : BitVec 32 := Scalar.xori v57 c0_i32_95
  let v235 : BitVec 32 := Scalar.addi c1_i32_107 v210
  let v236 : BitVec 32 := Scalar.muli v211 v235
  let c0_i32_252 : BitVec 32 := 0#32
  let v481 : BitVec 1 := Scalar.cmpi .eq v236 c0_i32_252
  let v482 : BitVec 32 := Scalar.extui v481
  let c0_i32_253 : BitVec 32 := 0#32
  let v483 : BitVec 1 := Scalar.cmpi .ne v482 c0_i32_253
  v483

def k0_dev21 (d0 : Dev nD) : Nat :=
  let c0_i32_384 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_383 : BitVec 32 := 1#32
  let v590 : BitVec 32 := Scalar.muli v313 c1_i32_383
  let v591 : BitVec 32 := Scalar.addi c0_i32_384 v590
  v591.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_31 : BitVec 32 := 0#32
  let v76 : BitVec 32 := Scalar.xori v74 c0_i32_31
  let c1_i32_42 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_30 : BitVec 32 := 1#32
  let v75 : BitVec 32 := Scalar.xori v57 c1_i32_30
  let v100 : BitVec 32 := Scalar.addi c1_i32_42 v75
  let v101 : BitVec 32 := Scalar.muli v76 v100
  let c1_i32_254 : BitVec 32 := 1#32
  let v484 : BitVec 1 := Scalar.cmpi .eq v101 c1_i32_254
  let v485 : BitVec 32 := Scalar.extui v484
  let c0_i32_255 : BitVec 32 := 0#32
  let v486 : BitVec 1 := Scalar.cmpi .ne v485 c0_i32_255
  v486

def k0_dev22 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c1_i32_121 : BitVec 32 := 1#32
  let v264 : BitVec 32 := Scalar.xori v57 c1_i32_121
  let c2_i32_124 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_122 : BitVec 32 := 0#32
  let v265 : BitVec 32 := Scalar.xori v74 c0_i32_122
  let v267 : BitVec 32 := Scalar.muli c2_i32_124 v265
  let v268 : BitVec 32 := Scalar.addi v264 v267
  let c0_i32_126 : BitVec 32 := 0#32
  let v270 : BitVec 1 := Scalar.cmpi .sgt v268 c0_i32_126
  let v271 : BitVec 32 := Scalar.extui v270
  let c0_i32_127 : BitVec 32 := 0#32
  let v272 : BitVec 1 := Scalar.cmpi .slt v268 c0_i32_127
  let v273 : BitVec 32 := Scalar.extui v272
  let v274 : BitVec 32 := Scalar.subi v271 v273
  let c2_i32_125 : BitVec 32 := 2#32
  let c0_i32_128 : BitVec 32 := 0#32
  let v275 : BitVec 1 := Scalar.cmpi .sgt c2_i32_125 c0_i32_128
  let v276 : BitVec 32 := Scalar.extui v275
  let c0_i32_129 : BitVec 32 := 0#32
  let v277 : BitVec 1 := Scalar.cmpi .slt c2_i32_125 c0_i32_129
  let v278 : BitVec 32 := Scalar.extui v277
  let v279 : BitVec 32 := Scalar.subi v276 v278
  let v280 : BitVec 1 := Scalar.cmpi .ne v274 v279
  let v281 : BitVec 32 := Scalar.remsi v268 c2_i32_125
  let c0_i32_130 : BitVec 32 := 0#32
  let v282 : BitVec 1 := Scalar.cmpi .ne v281 c0_i32_130
  let v283 : BitVec 1 := Scalar.andi v280 v282
  let v269 : BitVec 32 := Scalar.divsi v268 c2_i32_125
  let c1_i32_131 : BitVec 32 := 1#32
  let v284 : BitVec 32 := Scalar.subi v269 c1_i32_131
  let v285 : BitVec 32 := Scalar.select v283 v284 v269
  let v286 : BitVec 32 := Scalar.xori v268 v285
  let c4_i32_132 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_123 : BitVec 32 := 0#32
  let v266 : BitVec 32 := Scalar.xori v19 c0_i32_123
  let v287 : BitVec 32 := Scalar.muli c4_i32_132 v266
  let v288 : BitVec 32 := Scalar.addi v286 v287
  let c1_i32_404 : BitVec 32 := 1#32
  let v606 : BitVec 32 := Scalar.muli v288 c1_i32_404
  let v607 : BitVec 32 := Scalar.addi c0_i32_405 v606
  v607.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_44 : BitVec 32 := 1#32
  let v103 : BitVec 32 := Scalar.xori v74 c1_i32_44
  let c1_i32_55 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_43 : BitVec 32 := 0#32
  let v102 : BitVec 32 := Scalar.xori v57 c0_i32_43
  let v127 : BitVec 32 := Scalar.addi c1_i32_55 v102
  let v128 : BitVec 32 := Scalar.muli v103 v127
  let c2_i32_256 : BitVec 32 := 2#32
  let v487 : BitVec 1 := Scalar.cmpi .eq v128 c2_i32_256
  let v488 : BitVec 32 := Scalar.extui v487
  let c0_i32_257 : BitVec 32 := 0#32
  let v489 : BitVec 1 := Scalar.cmpi .ne v488 c0_i32_257
  v489

def k0_dev23 (d0 : Dev nD) : Nat :=
  let c0_i32_405 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_133 : BitVec 32 := 0#32
  let v289 : BitVec 32 := Scalar.xori v57 c0_i32_133
  let c2_i32_136 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c1_i32_134 : BitVec 32 := 1#32
  let v290 : BitVec 32 := Scalar.xori v74 c1_i32_134
  let v292 : BitVec 32 := Scalar.muli c2_i32_136 v290
  let v293 : BitVec 32 := Scalar.addi v289 v292
  let c0_i32_138 : BitVec 32 := 0#32
  let v295 : BitVec 1 := Scalar.cmpi .sgt v293 c0_i32_138
  let v296 : BitVec 32 := Scalar.extui v295
  let c0_i32_139 : BitVec 32 := 0#32
  let v297 : BitVec 1 := Scalar.cmpi .slt v293 c0_i32_139
  let v298 : BitVec 32 := Scalar.extui v297
  let v299 : BitVec 32 := Scalar.subi v296 v298
  let c2_i32_137 : BitVec 32 := 2#32
  let c0_i32_140 : BitVec 32 := 0#32
  let v300 : BitVec 1 := Scalar.cmpi .sgt c2_i32_137 c0_i32_140
  let v301 : BitVec 32 := Scalar.extui v300
  let c0_i32_141 : BitVec 32 := 0#32
  let v302 : BitVec 1 := Scalar.cmpi .slt c2_i32_137 c0_i32_141
  let v303 : BitVec 32 := Scalar.extui v302
  let v304 : BitVec 32 := Scalar.subi v301 v303
  let v305 : BitVec 1 := Scalar.cmpi .ne v299 v304
  let v306 : BitVec 32 := Scalar.remsi v293 c2_i32_137
  let c0_i32_142 : BitVec 32 := 0#32
  let v307 : BitVec 1 := Scalar.cmpi .ne v306 c0_i32_142
  let v308 : BitVec 1 := Scalar.andi v305 v307
  let v294 : BitVec 32 := Scalar.divsi v293 c2_i32_137
  let c1_i32_143 : BitVec 32 := 1#32
  let v309 : BitVec 32 := Scalar.subi v294 c1_i32_143
  let v310 : BitVec 32 := Scalar.select v308 v309 v294
  let v311 : BitVec 32 := Scalar.xori v293 v310
  let c4_i32_144 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_135 : BitVec 32 := 0#32
  let v291 : BitVec 32 := Scalar.xori v19 c0_i32_135
  let v312 : BitVec 32 := Scalar.muli c4_i32_144 v291
  let v313 : BitVec 32 := Scalar.addi v311 v312
  let c1_i32_404 : BitVec 32 := 1#32
  let v606 : BitVec 32 := Scalar.muli v313 c1_i32_404
  let v607 : BitVec 32 := Scalar.addi c0_i32_405 v606
  v607.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_70 : BitVec 32 := 0#32
  let v157 : BitVec 32 := Scalar.xori v74 c0_i32_70
  let c1_i32_81 : BitVec 32 := 1#32
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_69 : BitVec 32 := 0#32
  let v156 : BitVec 32 := Scalar.xori v57 c0_i32_69
  let v181 : BitVec 32 := Scalar.addi c1_i32_81 v156
  let v182 : BitVec 32 := Scalar.muli v157 v181
  let c0_i32_258 : BitVec 32 := 0#32
  let v490 : BitVec 1 := Scalar.cmpi .eq v182 c0_i32_258
  let v491 : BitVec 32 := Scalar.extui v490
  let c0_i32_259 : BitVec 32 := 0#32
  let v492 : BitVec 1 := Scalar.cmpi .ne v491 c0_i32_259
  v492

def k0_dev24 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c0_i32_11 : BitVec 32 := 0#32
  let v31 : BitVec 1 := Scalar.cmpi .sgt v29 c0_i32_11
  let v32 : BitVec 32 := Scalar.extui v31
  let c0_i32_12 : BitVec 32 := 0#32
  let v33 : BitVec 1 := Scalar.cmpi .slt v29 c0_i32_12
  let v34 : BitVec 32 := Scalar.extui v33
  let v35 : BitVec 32 := Scalar.subi v32 v34
  let c2_i32 : BitVec 32 := 2#32
  let c0_i32_13 : BitVec 32 := 0#32
  let v36 : BitVec 1 := Scalar.cmpi .sgt c2_i32 c0_i32_13
  let v37 : BitVec 32 := Scalar.extui v36
  let c0_i32_14 : BitVec 32 := 0#32
  let v38 : BitVec 1 := Scalar.cmpi .slt c2_i32 c0_i32_14
  let v39 : BitVec 32 := Scalar.extui v38
  let v40 : BitVec 32 := Scalar.subi v37 v39
  let v41 : BitVec 1 := Scalar.cmpi .ne v35 v40
  let v42 : BitVec 32 := Scalar.remsi v29 c2_i32
  let c0_i32_15 : BitVec 32 := 0#32
  let v43 : BitVec 1 := Scalar.cmpi .ne v42 c0_i32_15
  let v44 : BitVec 1 := Scalar.andi v41 v43
  let v30 : BitVec 32 := Scalar.divsi v29 c2_i32
  let c1_i32_16 : BitVec 32 := 1#32
  let v45 : BitVec 32 := Scalar.subi v30 c1_i32_16
  let v46 : BitVec 32 := Scalar.select v44 v45 v30
  let v47 : BitVec 32 := Scalar.xori v29 v46
  let c2_i32_17 : BitVec 32 := 2#32
  let c0_i32_18 : BitVec 32 := 0#32
  let v48 : BitVec 1 := Scalar.cmpi .eq c2_i32_17 c0_i32_18
  let c1_i32_19 : BitVec 32 := 1#32
  let v49 : BitVec 32 := Scalar.select v48 c1_i32_19 c2_i32_17
  let v50 : BitVec 32 := Scalar.remsi v47 v49
  let c0_i32_21 : BitVec 32 := 0#32
  let v52 : BitVec 1 := Scalar.cmpi .slt v50 c0_i32_21
  let c0_i32_22 : BitVec 32 := 0#32
  let v53 : BitVec 1 := Scalar.cmpi .slt v49 c0_i32_22
  let v54 : BitVec 1 := Scalar.xori v52 v53
  let c0_i32_20 : BitVec 32 := 0#32
  let v51 : BitVec 1 := Scalar.cmpi .ne v50 c0_i32_20
  let v55 : BitVec 1 := Scalar.andi v54 v51
  let v56 : BitVec 32 := Scalar.addi v50 v49
  let v57 : BitVec 32 := Scalar.select v55 v56 v50
  let c0_i32_145 : BitVec 32 := 0#32
  let v314 : BitVec 32 := Scalar.xori v57 c0_i32_145
  let c2_i32_148 : BitVec 32 := 2#32
  let c0_i32_24 : BitVec 32 := 0#32
  let v59 : BitVec 1 := Scalar.cmpi .sgt v47 c0_i32_24
  let v60 : BitVec 32 := Scalar.extui v59
  let c0_i32_25 : BitVec 32 := 0#32
  let v61 : BitVec 1 := Scalar.cmpi .slt v47 c0_i32_25
  let v62 : BitVec 32 := Scalar.extui v61
  let v63 : BitVec 32 := Scalar.subi v60 v62
  let c2_i32_23 : BitVec 32 := 2#32
  let c0_i32_26 : BitVec 32 := 0#32
  let v64 : BitVec 1 := Scalar.cmpi .sgt c2_i32_23 c0_i32_26
  let v65 : BitVec 32 := Scalar.extui v64
  let c0_i32_27 : BitVec 32 := 0#32
  let v66 : BitVec 1 := Scalar.cmpi .slt c2_i32_23 c0_i32_27
  let v67 : BitVec 32 := Scalar.extui v66
  let v68 : BitVec 32 := Scalar.subi v65 v67
  let v69 : BitVec 1 := Scalar.cmpi .ne v63 v68
  let v70 : BitVec 32 := Scalar.remsi v47 c2_i32_23
  let c0_i32_28 : BitVec 32 := 0#32
  let v71 : BitVec 1 := Scalar.cmpi .ne v70 c0_i32_28
  let v72 : BitVec 1 := Scalar.andi v69 v71
  let v58 : BitVec 32 := Scalar.divsi v47 c2_i32_23
  let c1_i32_29 : BitVec 32 := 1#32
  let v73 : BitVec 32 := Scalar.subi v58 c1_i32_29
  let v74 : BitVec 32 := Scalar.select v72 v73 v58
  let c0_i32_146 : BitVec 32 := 0#32
  let v315 : BitVec 32 := Scalar.xori v74 c0_i32_146
  let v317 : BitVec 32 := Scalar.muli c2_i32_148 v315
  let v318 : BitVec 32 := Scalar.addi v314 v317
  let c0_i32_150 : BitVec 32 := 0#32
  let v320 : BitVec 1 := Scalar.cmpi .sgt v318 c0_i32_150
  let v321 : BitVec 32 := Scalar.extui v320
  let c0_i32_151 : BitVec 32 := 0#32
  let v322 : BitVec 1 := Scalar.cmpi .slt v318 c0_i32_151
  let v323 : BitVec 32 := Scalar.extui v322
  let v324 : BitVec 32 := Scalar.subi v321 v323
  let c2_i32_149 : BitVec 32 := 2#32
  let c0_i32_152 : BitVec 32 := 0#32
  let v325 : BitVec 1 := Scalar.cmpi .sgt c2_i32_149 c0_i32_152
  let v326 : BitVec 32 := Scalar.extui v325
  let c0_i32_153 : BitVec 32 := 0#32
  let v327 : BitVec 1 := Scalar.cmpi .slt c2_i32_149 c0_i32_153
  let v328 : BitVec 32 := Scalar.extui v327
  let v329 : BitVec 32 := Scalar.subi v326 v328
  let v330 : BitVec 1 := Scalar.cmpi .ne v324 v329
  let v331 : BitVec 32 := Scalar.remsi v318 c2_i32_149
  let c0_i32_154 : BitVec 32 := 0#32
  let v332 : BitVec 1 := Scalar.cmpi .ne v331 c0_i32_154
  let v333 : BitVec 1 := Scalar.andi v330 v332
  let v319 : BitVec 32 := Scalar.divsi v318 c2_i32_149
  let c1_i32_155 : BitVec 32 := 1#32
  let v334 : BitVec 32 := Scalar.subi v319 c1_i32_155
  let v335 : BitVec 32 := Scalar.select v333 v334 v319
  let v336 : BitVec 32 := Scalar.xori v318 v335
  let c4_i32_156 : BitVec 32 := 4#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_147 : BitVec 32 := 1#32
  let v316 : BitVec 32 := Scalar.xori v19 c1_i32_147
  let v337 : BitVec 32 := Scalar.muli c4_i32_156 v316
  let v338 : BitVec 32 := Scalar.addi v336 v337
  let c1_i32_401 : BitVec 32 := 1#32
  let v606 : BitVec 32 := Scalar.muli v338 c1_i32_401
  let v607 : BitVec 32 := Scalar.addi c0_i32_402 v606
  v607.toNat
abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Cube.lean ====
/-
The three-dimensional cube of the eight devices: who sends which partial product to whom, into which slot, and when.
-/
module

public import proofs.«01_k».proof.Proof.Gen.KernelIdeal.Skeleton

@[expose] public section

namespace Cert.Cube

open Cert.KernelIdeal Cert.KernelIdeal.Gen
open Idealize.ShloMosaic

/-- A device's corner of the cube, its three coordinates the bits of a number below eight. -/
def corner (c : Dev nD) : ℕ := ((c.val % 4) ^^^ (c.val % 4 / 2)) + 4 * (c.val / 4)

/-- The device at a corner. -/
def place (k : ℕ) : Dev nD := ⟨(((k % 4) ^^^ (k % 4 / 2)) + 4 * (k / 4)) % 8, Nat.mod_lt _ (by decide)⟩

/-- The device whose corner differs from that of `c` in the bits of `e`. -/
def across (c : Dev nD) (e : ℕ) : Dev nD := place (corner c ^^^ e)

/-- The neighbour of `c` along an axis. -/
def nbr (c : Dev nD) (a : ℕ) : Dev nD := across c (2 ^ a)

/-- Which of the three rotations of the axes serves the partial product that goes to `across c e`. -/
def turn (c : Dev nD) (e : ℕ) : ℕ := ((corner c ^^^ e) / 2 % 2) * (1 + (corner c ^^^ e) % 2)

/-- The `j`-th axis of the rotation `k`. -/
def rot (k j : ℕ) : ℕ := (k + j) % 3

/-- The round in which `c` sends the partial product for `across c e`; three for its own. -/
def depth (c : Dev nD) (e : ℕ) : ℕ :=
  if e.testBit (rot (turn c e) 0) then 0 else if e.testBit (rot (turn c e) 1) then 1 else if e = 0 then 3 else 2

/-- The axis along which `c` sends it. -/
def axis (c : Dev nD) (e : ℕ) : ℕ := rot (turn c e) (depth c e)

/-- The slot in which the neighbour keeps what arrives in round `j` for the corner `e` away from it. -/
def slotOf (e j : ℕ) : ℕ :=
  match e with
  | 0 => j | 1 => 3 + j | 2 => 5 + j | 4 => 7 + j | 3 => 9 | 5 => 10 | _ => 11

/-- The device to which `c` sends its slot `i`, -/
def dst (c : Dev nD) (i : Fin 7) : Dev nD := nbr c (axis c (i.val + 1))
/-- and the slot that it lands in there. -/
def dsl (c : Dev nD) (i : Fin 7) : Fin 12 :=
  ⟨slotOf ((i.val + 1) ^^^ 2 ^ axis c (i.val + 1)) (depth c (i.val + 1)) % 12, Nat.mod_lt _ (by decide)⟩

/-- The offset of the corner that a receive slot serves, and the round of its arrival. -/
def slE (s : Fin 12) : ℕ := match s.val with | 0 | 1 | 2 => 0 | 3 | 4 => 1 | 5 | 6 => 2 | 7 | 8 => 4 | 9 => 3 | 10 => 5 | _ => 6
def slP (s : Fin 12) : ℕ := match s.val with | 0 => 0 | 1 => 1 | 2 => 2 | 4 | 6 | 8 => 1 | _ => 0

/-- Whether something arrives in the slot `s` of `c`. -/
def used (c : Dev nD) (s : Fin 12) : Prop := slP s < depth c (slE s)
instance (c : Dev nD) (s : Fin 12) : Decidable (used c s) := by unfold used; infer_instance

/-- The device that fills the slot `s` of `c`, -/
def srcD (c : Dev nD) (s : Fin 12) : Dev nD := nbr c (rot (turn c (slE s)) (slP s))
/-- and from which of its slots. -/
def srcI (c : Dev nD) (s : Fin 12) : Fin 7 :=
  ⟨((slE s ^^^ 2 ^ rot (turn c (slE s)) (slP s)) - 1) % 7, Nat.mod_lt _ (by decide)⟩

/-- The kernel's conditional sends in program order: the slot sent and the slot that it lands in. -/
def sends : List (Fin 7 × Fin 12) :=
  [(6, 11), (6, 10), (6, 9), (2, 5), (2, 3), (4, 7), (4, 3), (5, 7), (5, 5), (0, 0), (1, 0), (3, 0),
   (0, 1), (1, 1), (2, 6), (3, 1), (4, 4), (5, 8), (0, 2), (1, 2), (3, 2)]

/-- The number, from one, of the send that `c` executes for its slot `i`. -/
def sendAt (c : Dev nD) (i : Fin 7) : ℕ := sends.idxOf (i, dsl c i) + 1

/-! ## Facts of the cube, each read off the eight devices -/

theorem used_dst : ∀ c i, used (dst c i) (dsl c i) := by decide +kernel
theorem srcD_dst : ∀ c i, srcD (dst c i) (dsl c i) = c := by decide +kernel
theorem srcI_dst : ∀ c i, srcI (dst c i) (dsl c i) = i := by decide +kernel
theorem dst_src : ∀ c s, used c s → dst (srcD c s) (srcI c s) = c := by decide +kernel
theorem dsl_src : ∀ c s, used c s → dsl (srcD c s) (srcI c s) = s := by decide +kernel
/-- What arrives in a slot is for the corner which the slot serves. -/
theorem across_src : ∀ c s, used c s → across (srcD c s) ((srcI c s).val + 1) = across c (slE s) := by decide +kernel
theorem depth_src : ∀ c s, used c s → depth (srcD c s) ((srcI c s).val + 1) = slP s := by decide +kernel
theorem across_zero : ∀ c, across c 0 = c := by decide +kernel
theorem used_final : ∀ c (s : Fin 12), s.val < 3 → used c s := by decide +kernel
theorem nbr_nbr : ∀ c (a : Fin 3), nbr (nbr c a.val) a.val = c := by decide +kernel
theorem axis_lt : ∀ c (i : Fin 7), axis c (i.val + 1) < 3 := by decide +kernel
theorem sendAt_pos : ∀ c i, 1 ≤ sendAt c i ∧ sendAt c i ≤ 21 := by decide +kernel

/-- A slot of a device arrives at most once. -/
theorem dst_dsl_inj {c c' : Dev nD} {i i' : Fin 7} (h : dst c i = dst c' i') (h' : dsl c i = dsl c' i') : c = c' ∧ i = i' :=
  ⟨by rw [← srcD_dst c i, h, h', srcD_dst], by rw [← srcI_dst c i, h, h', srcI_dst]⟩

/-! ## The kernel's conditions and device numbers -/

theorem cond1 : ∀ c, k0_cond1 c = 1#1 ↔ sendAt c 6 = 1 := by decide +kernel
theorem cond2 : ∀ c, k0_cond2 c = 1#1 ↔ sendAt c 6 = 2 := by decide +kernel
theorem cond3 : ∀ c, k0_cond3 c = 1#1 ↔ sendAt c 6 = 3 := by decide +kernel
theorem cond4 : ∀ c, k0_cond4 c = 1#1 ↔ sendAt c 2 = 4 := by decide +kernel
theorem cond5 : ∀ c, k0_cond5 c = 1#1 ↔ sendAt c 2 = 5 := by decide +kernel
theorem cond6 : ∀ c, k0_cond6 c = 1#1 ↔ sendAt c 4 = 6 := by decide +kernel
theorem cond7 : ∀ c, k0_cond7 c = 1#1 ↔ sendAt c 4 = 7 := by decide +kernel
theorem cond8 : ∀ c, k0_cond8 c = 1#1 ↔ sendAt c 5 = 8 := by decide +kernel
theorem cond9 : ∀ c, k0_cond9 c = 1#1 ↔ sendAt c 5 = 9 := by decide +kernel
theorem cond10 : ∀ c, k0_cond10 c = 1#1 ↔ sendAt c 0 = 10 := by decide +kernel
theorem cond11 : ∀ c, k0_cond11 c = 1#1 ↔ sendAt c 1 = 11 := by decide +kernel
theorem cond12 : ∀ c, k0_cond12 c = 1#1 ↔ sendAt c 3 = 12 := by decide +kernel
theorem cond13 : ∀ c, k0_cond13 c = 1#1 ↔ sendAt c 0 = 13 := by decide +kernel
theorem cond14 : ∀ c, k0_cond14 c = 1#1 ↔ sendAt c 1 = 14 := by decide +kernel
theorem cond15 : ∀ c, k0_cond15 c = 1#1 ↔ sendAt c 2 = 15 := by decide +kernel
theorem cond16 : ∀ c, k0_cond16 c = 1#1 ↔ sendAt c 3 = 16 := by decide +kernel
theorem cond17 : ∀ c, k0_cond17 c = 1#1 ↔ sendAt c 4 = 17 := by decide +kernel
theorem cond18 : ∀ c, k0_cond18 c = 1#1 ↔ sendAt c 5 = 18 := by decide +kernel
theorem cond19 : ∀ c, k0_cond19 c = 1#1 ↔ sendAt c 0 = 19 := by decide +kernel
theorem cond20 : ∀ c, k0_cond20 c = 1#1 ↔ sendAt c 1 = 20 := by decide +kernel
theorem cond21 : ∀ c, k0_cond21 c = 1#1 ↔ sendAt c 3 = 21 := by decide +kernel

theorem dev1 : ∀ c, k0_dev1 c = (nbr c 0).val := by decide +kernel
theorem dev2 : ∀ c, k0_dev2 c = (nbr c 1).val := by decide +kernel
theorem dev3 : ∀ c, k0_dev3 c = (nbr c 2).val := by decide +kernel
theorem dev4 : ∀ c, sendAt c 6 = 1 → k0_dev4 c = (dst c 6).val := by decide +kernel
theorem dev5 : ∀ c, sendAt c 6 = 2 → k0_dev5 c = (dst c 6).val := by decide +kernel
theorem dev6 : ∀ c, sendAt c 6 = 3 → k0_dev6 c = (dst c 6).val := by decide +kernel
theorem dev7 : ∀ c, sendAt c 2 = 4 → k0_dev7 c = (dst c 2).val := by decide +kernel
theorem dev8 : ∀ c, sendAt c 2 = 5 → k0_dev8 c = (dst c 2).val := by decide +kernel
theorem dev9 : ∀ c, sendAt c 4 = 6 → k0_dev9 c = (dst c 4).val := by decide +kernel
theorem dev10 : ∀ c, sendAt c 4 = 7 → k0_dev10 c = (dst c 4).val := by decide +kernel
theorem dev11 : ∀ c, sendAt c 5 = 8 → k0_dev11 c = (dst c 5).val := by decide +kernel
theorem dev12 : ∀ c, sendAt c 5 = 9 → k0_dev12 c = (dst c 5).val := by decide +kernel
theorem dev13 : ∀ c, sendAt c 0 = 10 → k0_dev13 c = (dst c 0).val := by decide +kernel
theorem dev14 : ∀ c, sendAt c 1 = 11 → k0_dev14 c = (dst c 1).val := by decide +kernel
theorem dev15 : ∀ c, sendAt c 3 = 12 → k0_dev15 c = (dst c 3).val := by decide +kernel
theorem dev16 : ∀ c, sendAt c 0 = 13 → k0_dev16 c = (dst c 0).val := by decide +kernel
theorem dev17 : ∀ c, sendAt c 1 = 14 → k0_dev17 c = (dst c 1).val := by decide +kernel
theorem dev18 : ∀ c, sendAt c 2 = 15 → k0_dev18 c = (dst c 2).val := by decide +kernel
theorem dev19 : ∀ c, sendAt c 3 = 16 → k0_dev19 c = (dst c 3).val := by decide +kernel
theorem dev20 : ∀ c, sendAt c 4 = 17 → k0_dev20 c = (dst c 4).val := by decide +kernel
theorem dev21 : ∀ c, sendAt c 5 = 18 → k0_dev21 c = (dst c 5).val := by decide +kernel
theorem dev22 : ∀ c, sendAt c 0 = 19 → k0_dev22 c = (dst c 0).val := by decide +kernel
theorem dev23 : ∀ c, sendAt c 1 = 20 → k0_dev23 c = (dst c 1).val := by decide +kernel
theorem dev24 : ∀ c, sendAt c 3 = 21 → k0_dev24 c = (dst c 3).val := by decide +kernel

/-- The rows of `x` that a partial product reads: those of the device that it is for. -/
theorem off1 : ∀ c (r : Fin 7), k0_off1 c (k0_off1_at r).1 (k0_off1_at r).2.1 (k0_off1_at r).2.2
    = ![128 * (across c ((k0_off1_at r).1.toNat + 2 * (k0_off1_at r).2.1.toNat + 4 * (k0_off1_at r).2.2.toNat)).val, 0] := by decide +kernel
theorem off2 : ∀ c, k0_off2 c = ![128 * c.val, 0] := by decide +kernel

end Cert.Cube
-- ==== Proof.Sched.lean ====
/-
The slots, the semaphores and the contents of the kernel, and the schedule of its handshakes.
-/
module

public import proofs.«01_k».proof.Proof.Cube
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the handshakes', whose duties are named by an axis -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The slots -/

theorem inbS (i : Fin 7) : ∀ a, ![i.val, 0, 0] a + S1x128x1024.size a ≤ S7x128x1024.size a := by revert i; decide
theorem inbR (s : Fin 12) : ∀ a, ![s.val, 0, 0] a + S1x128x1024.size a ≤ S12x128x1024.size a := by revert s; decide
theorem inbSs (i : Fin 7) : ∀ a, ![i.val] a + S1.size a ≤ S7.size a := by revert i; decide
theorem inbRs (s : Fin 12) : ∀ a, ![s.val] a + S1.size a ≤ S12.size a := by revert s; decide

abbrev xB : Memref sig .tc .vmem S1024x128 .f32 := Memref.whole cc0_stg0_0
abbrev wB : Memref sig .tc .vmem S128x1024 .f32 := Memref.whole cc0_stg1_0
abbrev oB : Memref sig .tc .vmem S128x1024 .f32 := Memref.whole cc0_stg2_0
abbrev sB : Memref sig .tc .vmem S7x128x1024 .bf16 := Memref.whole cc0_scratch0
abbrev rB : Memref sig .tc .vmem S12x128x1024 .bf16 := Memref.whole cc0_scratch1

abbrev rS (i : Fin 7) : Rect S7x128x1024 := Rect.unit (s := S7x128x1024) ![i.val, 0, 0] S1x128x1024.size (inbS i)
abbrev rR (s : Fin 12) : Rect S12x128x1024 := Rect.unit (s := S12x128x1024) ![s.val, 0, 0] S1x128x1024.size (inbR s)

/-- Send slot `i` and receive slot `s`, as the kernel's loads and stores see them, -/
abbrev sM (i : Fin 7) : Memref sig .tc .vmem S1x128x1024 .bf16 := sB.slice (rS i) (fun _ => rfl)
abbrev rM (s : Fin 12) : Memref sig .tc .vmem S1x128x1024 .bf16 := rB.slice (rR s) (fun _ => rfl)
/-- and as its transfers see them. -/
abbrev sQ (i : Fin 7) : Memref sig .tc .vmem S128x1024 .bf16 := (sM i).squeeze S128x1024 squeezes_S1x128x1024_S128x1024
abbrev rQ (s : Fin 12) : Memref sig .tc .vmem S128x1024 .bf16 := (rM s).squeeze S128x1024 squeezes_S1x128x1024_S128x1024

/-! ## The semaphores -/

abbrev barS : Sem sig := (SemArray.scalar (sig.barrier 0 rfl) : Sems sig S_).sem
abbrev sendS (i : Fin 7) : DmaSem sig := ((cc0_scratch2.slice (Rect.unit (s := S7) ![i.val] S1.size (inbSs i))).squeeze S_ squeezes_S1_S_).sem
abbrev recvS (s : Fin 12) : DmaSem sig := ((cc0_scratch3.slice (Rect.unit (s := S12) ![s.val] S1.size (inbRs s))).squeeze S_ squeezes_S1_S_).sem

abbrev barCell (c : Dev nD) : GSem nD τ sig := ((c : Thread nD τ), .reg barS)
abbrev sendCell (c : Dev nD) (i : Fin 7) : GSem nD τ sig := ((c : Thread nD τ), .dma (sendS i))
abbrev recvCell (c : Dev nD) (s : Fin 12) : GSem nD τ sig := ((c : Thread nD τ), .dma (recvS s))

/-- The kernel's own semaphores, one for each slot; -/
abbrev OK : Type := Fin 7 ⊕ Fin 12
abbrev osem : OK → SemLoc sig := fun | .inl i => .dma (sendS i) | .inr s => .dma (recvS s)
/-- all that it waits on: these and the barrier's. -/
abbrev CK : Type := Option OK
abbrev csem : CK → SemLoc sig := fun | none => .reg barS | some k => osem k
abbrev kcell (ck : Dev nD × CK) : GSem nD τ sig := ((ck.1 : Thread nD τ), csem ck.2)

theorem sendS_val : ∀ i : Fin 7, (sendS i).val = 3 + i.val := by decide +kernel
theorem recvS_val : ∀ s : Fin 12, (recvS s).val = 10 + s.val := by decide +kernel

theorem csem_injective : Function.Injective csem := by
  rintro (_ | i | s) (_ | i' | s') h
  · rfl
  · cases h
  · cases h
  · cases h
  · have h1 : sendS i = sendS i' := by injection h
    have h2 := congrArg Fin.val h1; rw [sendS_val, sendS_val] at h2
    rw [show i = i' from Fin.ext (by omega)]
  · have h1 : sendS i = recvS s' := by injection h
    have h2 := congrArg Fin.val h1; rw [sendS_val, recvS_val] at h2; omega
  · cases h
  · have h1 : recvS s = sendS i' := by injection h
    have h2 := congrArg Fin.val h1; rw [sendS_val, recvS_val] at h2; omega
  · have h1 : recvS s = recvS s' := by injection h
    have h2 := congrArg Fin.val h1; rw [recvS_val, recvS_val] at h2
    rw [show s = s' from Fin.ext (by omega)]

theorem kcell_injective : Function.Injective (kcell : Dev nD × CK → GSem nD τ sig) := by
  rintro ⟨c, k⟩ ⟨c', k'⟩ h
  have h1 : c = c' := congrArg (fun g : GSem nD τ sig => g.1.1) h
  subst h1
  have h2 : k = k' := csem_injective (congrArg Prod.snd h)
  rw [h2]

/-- A transfer's credit on either of its semaphores. -/
abbrev N : ℕ := (rQ 0).view.dmaCredit
theorem N_pos : 0 < N := View.dmaCredit_pos _ (by decide)

/-! ## The contents -/

variable (X : Dev nD → Vec F S1024x128 .f32) (W : Dev nD → Vec F S128x1024 .f32)

theorem inbX (d : Dev nD) : ∀ a, ![128 * d.val, 0] a + S128x128.size a ≤ S1024x128.size a := by revert d; decide
abbrev rX (d : Dev nD) : Rect S1024x128 := Rect.unit (s := S1024x128) ![128 * d.val, 0] S128x128.size (inbX d)

/-- The rows of a device's block of `x` that make the rows of `x @ w` held by `d`. -/
def xrows (d : Dev nD) (f : Vec F S1024x128 .f32) : Vec F S128x128 .f32 := xB.view.readAt (Elt F) (rX d).toLoadRect f

/-- Device `c`'s own part of what it passes on from slot `i`, -/
def lv0 (c : Dev nD) (i : Fin 7) : FVec F S1x128x1024 .bf16 := k0_pay6 (xrows (across c (i.val + 1)) (X c)) (W c)
/-- the first and the second slot in which something arrives to be added to it, -/
def first (i : Fin 7) : Fin 12 := ⟨slotOf (i.val + 1) 0 % 12, Nat.mod_lt _ (by decide)⟩
def second (i : Fin 7) : Fin 12 := ⟨slotOf (i.val + 1) 1 % 12, Nat.mod_lt _ (by decide)⟩
/-- with the first arrival added, -/
def lv1 (c : Dev nD) (i : Fin 7) : FVec F S1x128x1024 .bf16 :=
  k0_pay16 (lv0 X W c i) (lv0 X W (srcD c (first i)) (srcI c (first i)))
/-- with both, -/
def lv2 (c : Dev nD) (i : Fin 7) : FVec F S1x128x1024 .bf16 :=
  k0_pay16 (lv1 X W c i) (lv1 X W (srcD c (second i)) (srcI c (second i)))
/-- and what it sends from there. -/
def sent (c : Dev nD) (i : Fin 7) : FVec F S1x128x1024 .bf16 :=
  if depth c (i.val + 1) = 0 then lv0 X W c i else if depth c (i.val + 1) = 1 then lv1 X W c i else lv2 X W c i
/-- What arrives in the slot `s` of `c`. -/
def landed (c : Dev nD) (s : Fin 12) : FVec F S1x128x1024 .bf16 := sent X W (srcD c s) (srcI c s)

/-- The result of device `c`. -/
def outAt (c : Dev nD) : FVec F S128x1024 .f32 :=
  k0_pay25 (k0_pay15 (xrows c (X c)) (W c)) (landed X W c 0) (landed X W c 1) (landed X W c 2)

theorem used_first : ∀ c (i : Fin 7), depth c (i.val + 1) ≠ 0 → used c (first i) := by decide +kernel
theorem used_second : ∀ c (i : Fin 7), depth c (i.val + 1) ≠ 0 → depth c (i.val + 1) ≠ 1 → used c (second i) := by decide +kernel
theorem src_first : ∀ c (i : Fin 7), depth c (i.val + 1) ≠ 0 → depth (srcD c (first i)) ((srcI c (first i)).val + 1) = 0 := by decide +kernel
theorem src_second : ∀ c (i : Fin 7), depth c (i.val + 1) ≠ 0 → depth c (i.val + 1) ≠ 1 →
    depth (srcD c (second i)) ((srcI c (second i)).val + 1) = 1 := by decide +kernel

theorem sent_zero {c : Dev nD} {i : Fin 7} (h : depth c (i.val + 1) = 0) : sent X W c i = lv0 X W c i := if_pos h
theorem sent_one {c : Dev nD} {i : Fin 7} (h : depth c (i.val + 1) = 1) :
    sent X W c i = k0_pay16 (lv0 X W c i) (landed X W c (first i)) := by
  rw [landed, sent_zero X W (src_first c i (by omega))]
  unfold sent; rw [if_neg (by omega), if_pos h]; rfl
theorem sent_two {c : Dev nD} {i : Fin 7} (h : depth c (i.val + 1) ≠ 0) (h' : depth c (i.val + 1) ≠ 1) :
    sent X W c i = k0_pay16 (k0_pay16 (lv0 X W c i) (landed X W c (first i))) (landed X W c (second i)) := by
  rw [landed, landed, sent_zero X W (src_first c i h)]
  unfold sent; rw [if_neg h, if_neg h', src_second c i h h', if_neg (by decide), if_pos rfl]; rfl

/-! ## The schedule -/

/-- The axis along which something arrives in the slot `s` of `c`. -/
def slA (c : Dev nD) (s : Fin 12) : ℕ := rot (turn c (slE s)) (slP s)

/-- A slot with any contents. -/
def anyS (c : Dev nD) (i : Fin 7) : sProp 𝕄 := iprop(∃ X, owns (c : Thread nD τ) (sM i) fullShare X)
def anyR (c : Dev nD) (s : Fin 12) : sProp 𝕄 := iprop(∃ X, owns (c : Thread nD τ) (rM s) fullShare X)

/-- What the neighbour of `c` along the axis `a` hands to `c` with its signal: those of its receive slots which `c` fills. -/
def barPay (c : Dev nD) (a : Fin 3) : sProp 𝕄 :=
  bigSep Finset.univ fun s : Fin 12 => if used (nbr c a.val) s ∧ slA (nbr c a.val) s = a.val then anyR (nbr c a.val) s else iprop(emp)

def dec (sm : SemLoc sig) : Option CK := Function.partialInv csem sm
theorem dec_csem (k : CK) : dec (csem k) = some k := Function.partialInv_left csem_injective k

def duts (c : Dev nD) : Option CK → Finset (Fin 3)
  | some none => Finset.univ
  | some (some (.inl _)) => {0}
  | some (some (.inr s)) => if used c s then {0} else ∅
  | none => ∅

def pay (c : Dev nD) : Option CK → Fin 3 → sProp 𝕄
  | some none, a => barPay c a
  | some (some (.inl i)), _ => owns (c : Thread nD τ) (sM i) fullShare (sent X W c i)
  | some (some (.inr s)), _ => owns (c : Thread nD τ) (rM s) fullShare (landed X W c s)
  | none, _ => iprop(emp)

def amt : Option CK → ℕ
  | some none => 1
  | _ => N

/-- One round: a barrier cell has a duty of one unit for each axis; the cell of a slot that is sent or filled, one of a
    transfer's credit. -/
def rd : Rounds.Schedule (GSem nD τ sig) (Fin 3) 𝕄 where
  duties g r := if r = 0 ∧ g.1.2 = .tc then duts g.1.1 (dec g.2) else ∅
  unitless _ := False
  amount g _ _ := amt (dec g.2)
  payload g _ d := pay X W g.1.1 (dec g.2) d
  amount_pos g _ _ _ := by
    unfold amt; split
    · exact Nat.one_pos
    · exact N_pos

instance owns_storable (c : Dev nD) (m : Memref sig .tc .vmem S1x128x1024 .bf16) (Y) :
    BI.Storable (upEmb : UEmb _ 𝕄) (owns (c : Thread nD τ) m fullShare Y) := by unfold owns; infer_instance

instance rd_payload_storable (g : GSem nD τ sig) (r : ℕ) (d : Fin 3) :
    BI.Storable (upEmb : UEmb _ 𝕄) ((rd (F := F) X W).payload g r d) := by
  show BI.Storable upEmb (pay X W g.1.1 (dec g.2) d)
  rcases dec g.2 with _ | _ | i | s
  · unfold pay; infer_instance
  · unfold pay barPay anyR
    have (s : Fin 12) : BI.Storable (upEmb : UEmb _ 𝕄) (if used (nbr g.1.1 d.val) s ∧ slA (nbr g.1.1 d.val) s = d.val then
        (iprop(∃ X, owns (nbr g.1.1 d.val : Thread nD τ) (rM s) fullShare X) : sProp 𝕄) else iprop(emp)) := by split <;> infer_instance
    infer_instance
  · unfold pay; infer_instance
  · unfold pay; infer_instance

section Sched
variable (c : Dev nD)

theorem duties_at (k : CK) : (rd X W).duties (kcell (c, k)) 0 = duts c (some k) := by
  dsimp only [rd]; rw [if_pos ⟨rfl, rfl⟩, dec_csem]
theorem duties_bar : (rd X W).duties (barCell c) 0 = Finset.univ := duties_at X W c none
theorem duties_send (i : Fin 7) : (rd X W).duties (sendCell c i) 0 = {0} := duties_at X W c (some (.inl i))
theorem duties_recv {s : Fin 12} (h : used c s) : (rd X W).duties (recvCell c s) 0 = {0} :=
  (duties_at X W c (some (.inr s))).trans (if_pos h)
theorem duties_unused {s : Fin 12} (h : ¬ used c s) : ∀ r, 0 ≤ r → (rd X W).duties (recvCell c s) r = ∅ := fun r _ => by
  show (if r = 0 ∧ (recvCell c s).1.2 = .tc then duts c (dec (csem (some (.inr s)))) else ∅) = _
  rw [dec_csem]; split
  · exact if_neg h
  · rfl
theorem duties_later (g : GSem nD τ sig) : ∀ r, 1 ≤ r → (rd X W).duties g r = ∅ :=
  fun r hr => by dsimp only [rd]; exact if_neg fun h => by omega

theorem amount_bar (d : Fin 3) : (rd X W).amount (barCell c) 0 d = 1 := by
  show amt (dec (csem none)) = _; rw [dec_csem]; rfl
theorem amount_send (i : Fin 7) (d : Fin 3) : (rd X W).amount (sendCell c i) 0 d = N := by
  show amt (dec (csem (some (.inl i)))) = _; rw [dec_csem]; rfl
theorem amount_recv (s : Fin 12) (d : Fin 3) : (rd X W).amount (recvCell c s) 0 d = N := by
  show amt (dec (csem (some (.inr s)))) = _; rw [dec_csem]; rfl

theorem expect_bar : (rd X W).expect (barCell c) 0 = 3 := by
  unfold Schedule.expect Schedule.amountOf
  rw [duties_bar, Finset.sum_congr rfl fun d _ => amount_bar X W c d, Finset.sum_const, Finset.card_univ, Fintype.card_fin, smul_eq_mul]
theorem expect_send (i : Fin 7) : (rd X W).expect (sendCell c i) 0 = N := by
  unfold Schedule.expect Schedule.amountOf; rw [duties_send, Finset.sum_singleton, amount_send]
theorem expect_recv {s : Fin 12} (h : used c s) : (rd X W).expect (recvCell c s) 0 = N := by
  unfold Schedule.expect Schedule.amountOf; rw [duties_recv X W c h, Finset.sum_singleton, amount_recv]

theorem payload_bar (a : Fin 3) : (rd X W).payload (barCell c) 0 a = barPay c a := by
  show pay X W c (dec (csem none)) a = _; rw [dec_csem]; rfl
theorem payload_send (i : Fin 7) (d : Fin 3) : (rd X W).payload (sendCell c i) 0 d = owns (c : Thread nD τ) (sM i) fullShare (sent X W c i) := by
  show pay X W c (dec (csem (some (.inl i)))) d = _; rw [dec_csem]; rfl
theorem payload_recv (s : Fin 12) (d : Fin 3) : (rd X W).payload (recvCell c s) 0 d = owns (c : Thread nD τ) (rM s) fullShare (landed X W c s) := by
  show pay X W c (dec (csem (some (.inr s)))) d = _; rw [dec_csem]; rfl

/-- What a wait for a whole round brings: all its payloads. -/
theorem rest_bar : bigSep ((rd X W).duties (barCell c) 0 \ ∅) (fun d => (rd X W).payload (barCell c) 0 d) = bigSep Finset.univ fun a => barPay c a := by
  rw [Finset.sdiff_empty, duties_bar]; exact bigSep_congr fun a _ => payload_bar X W c a
theorem rest_send (i : Fin 7) : bigSep ((rd X W).duties (sendCell c i) 0 \ ∅) (fun d => (rd X W).payload (sendCell c i) 0 d)
    = owns (c : Thread nD τ) (sM i) fullShare (sent X W c i) := by
  rw [Finset.sdiff_empty, duties_send, bigSep_singleton, payload_send]
theorem rest_recv {s : Fin 12} (h : used c s) : bigSep ((rd X W).duties (recvCell c s) 0 \ ∅) (fun d => (rd X W).payload (recvCell c s) 0 d)
    = owns (c : Thread nD τ) (rM s) fullShare (landed X W c s) := by
  rw [Finset.sdiff_empty, duties_recv X W c h, bigSep_singleton, payload_recv]

end Sched

/-! ## What a device owes, and the levels -/

/-- What `c` still owes before its `n`-th send: the credit of every slot that it sends then or later. -/
def Owe (c : Dev nD) (n : ℕ) : CellTallies nD τ sig Unit :=
  ∑ i : Fin 7, if n ≤ sendAt c i then tallyAt (recvCell (dst c i) (dsl c i)) () N else 0

/-- What it owes at launch: that, and a unit to the barrier of each neighbour. -/
def O₂ (c : Dev nD) : CellTallies nD τ sig Unit := Owe c 1 + tallyAt (barCell (nbr c 2)) () 1
def O₁ (c : Dev nD) : CellTallies nD τ sig Unit := O₂ c + tallyAt (barCell (nbr c 1)) () 1
def O₀ (c : Dev nD) : CellTallies nD τ sig Unit := O₁ c + tallyAt (barCell (nbr c 0)) () 1

theorem tally_recv_pos {d : Dev nD} {s : Fin 12} {k : ℕ} {g : GSem nD τ sig} {u : Unit} (h : 0 < (tallyAt (recvCell d s) () k : CellTallies nD τ sig Unit) g u) :
    g = recvCell d s := by
  rw [tallyAt_apply] at h; by_contra hn; rw [if_neg fun h' => hn h'.1] at h; exact Nat.lt_irrefl 0 h
theorem tally_bar_pos {d : Dev nD} {k : ℕ} {g : GSem nD τ sig} {u : Unit} (h : 0 < (tallyAt (barCell d) () k : CellTallies nD τ sig Unit) g u) :
    g = barCell d := by
  rw [tallyAt_apply] at h; by_contra hn; rw [if_neg fun h' => hn h'.1] at h; exact Nat.lt_irrefl 0 h

theorem Owe_pos {c : Dev nD} {n : ℕ} {g : GSem nD τ sig} {u : Unit} (h : 0 < Owe c n g u) :
    ∃ i, n ≤ sendAt c i ∧ g = recvCell (dst c i) (dsl c i) := by
  unfold Owe at h
  rw [Finset.sum_apply, Finsupp.finset_sum_apply] at h
  obtain ⟨i, _, hi⟩ := Finset.exists_ne_zero_of_sum_ne_zero h.ne'
  by_cases hn : n ≤ sendAt c i
  · rw [if_pos hn] at hi; exact ⟨i, hn, tally_recv_pos (Nat.pos_of_ne_zero hi)⟩
  · rw [if_neg hn] at hi; exact absurd rfl hi

theorem O₀_pos {c : Dev nD} {g : GSem nD τ sig} {u : Unit} (h : 0 < O₀ c g u) :
    (∃ d s, g = recvCell d s) ∨ ∃ d, g = barCell d := by
  unfold O₀ O₁ O₂ at h
  simp only [Pi.add_apply, Finsupp.add_apply] at h
  by_cases h0 : 0 < Owe c 1 g u
  · obtain ⟨i, _, hg⟩ := Owe_pos h0; exact .inl ⟨_, _, hg⟩
  by_cases h1 : 0 < (tallyAt (barCell (nbr c 2)) () 1 : CellTallies nD τ sig Unit) g u
  · exact .inr ⟨_, tally_bar_pos h1⟩
  by_cases h2 : 0 < (tallyAt (barCell (nbr c 1)) () 1 : CellTallies nD τ sig Unit) g u
  · exact .inr ⟨_, tally_bar_pos h2⟩
  exact .inr ⟨_, tally_bar_pos (d := nbr c 0) (k := 1) (u := u) (by omega)⟩

/-- The debt before the send `n`, when `c` executes it for the slot `i`; -/
theorem Owe_step {c : Dev nD} {n : ℕ} {i : Fin 7} (h : sendAt c i = n) (hi : ∀ i', sendAt c i' = n → i' = i) :
    Owe c n = Owe c (n + 1) + tallyAt (recvCell (dst c i) (dsl c i)) () N := by
  unfold Owe
  rw [← Finset.sum_erase_add (a := i) _ _ (Finset.mem_univ i), if_pos h.ge]
  refine congrArg (· + _) ?_
  rw [← Finset.sum_erase_add (a := i) (Finset.univ : Finset (Fin 7)) (fun i' => if n + 1 ≤ sendAt c i' then _ else _) (Finset.mem_univ i),
    if_neg (by omega), add_zero]
  refine Finset.sum_congr rfl fun i' hi' => ?_
  have : sendAt c i' ≠ n := fun h' => (Finset.mem_erase.mp hi').1 (hi i' h')
  exact if_congr (by omega) rfl rfl
/-- and when it executes none then. -/
theorem Owe_skip {c : Dev nD} {n : ℕ} (h : ∀ i, sendAt c i ≠ n) : Owe c n = Owe c (n + 1) := by
  unfold Owe
  refine Finset.sum_congr rfl fun i _ => if_congr ?_ rfl rfl
  have := h i; omega
theorem Owe_end (c : Dev nD) : Owe c 22 = 0 := by
  unfold Owe
  refine Finset.sum_eq_zero fun i _ => if_neg ?_
  have := (sendAt_pos c i).2; omega

def L (g : GSem nD τ sig) : Finset Unit := if g.1.2 = .tc then {()} else ∅
/-- A barrier at one, a receive cell above it by the round of its arrival, all else at zero. -/
def lvl : Option CK → ℕ
  | some none => 1
  | some (some (.inr s)) => 2 + slP s
  | _ => 0
def lv (g : GSem nD τ sig) (_ : Unit) : ℕ := lvl (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [show (barCell c).2 = csem none from rfl, dec_csem]; rfl
theorem lv_recv (c : Dev nD) (s : Fin 12) (u : Unit) : lv (recvCell c s) u = 2 + slP s := by
  unfold lv; rw [show (recvCell c s).2 = csem (some (.inr s)) from rfl, dec_csem]; rfl

/-- A wait on a cell of level `l` is allowed while all debts are on cells above it. -/
theorem mayWait_of (c : Dev nD) (sm : SemLoc sig) (l : ℕ) (hl : ∀ u, lv ((c : Thread nD τ), sm) u ≤ l) (O : CellTallies nD τ sig Unit)
    (h : ∀ g u, 0 < O g u → g.1.2 = .tc ∧ l < lv g u) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact hl _)
    (fun g u hg => (h g u hg).2)

theorem mayWait_bar (c : Dev nD) : (levAts L lv : sProp 𝕄) ⊢ MayWait (c : Thread nD τ) (.reg barS) () (Owe c 1) :=
  mayWait_of c _ 1 (fun u => (lv_bar c u).le) _ fun g u hg => by
    obtain ⟨i, _, rfl⟩ := Owe_pos hg; exact ⟨rfl, by rw [lv_recv]; omega⟩

theorem mayWait_recv (c : Dev nD) (s : Fin 12) (n : ℕ) (h : ∀ i, n ≤ sendAt c i → slP s < slP (dsl c i)) :
    (levAts L lv : sProp 𝕄) ⊢ MayWait (c : Thread nD τ) (.dma (recvS s)) () (Owe c n) :=
  mayWait_of c _ (2 + slP s) (fun u => (lv_recv c s u).le) _ fun g u hg => by
    obtain ⟨i, hi, rfl⟩ := Owe_pos hg; exact ⟨rfl, by rw [lv_recv]; have := h i hi; omega⟩

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine mayWait_of c _ 0 (fun u => ?_) _ fun g u hg => ?_
    · have : dec (SemLoc.dma q) = none := by
        unfold dec Function.partialInv
        refine dif_neg ?_
        rintro ⟨_ | i | s, h⟩
        · cases h
        · have h1 : sendS i = q := by injection h
          have := sendS_val i; rw [h1] at this; omega
        · have h1 : recvS s = q := by injection h
          have := recvS_val s; rw [h1] at this; omega
      unfold lv; rw [this]; exact le_refl 0
    · rcases O₀_pos hg with ⟨d, s, rfl⟩ | ⟨d, rfl⟩
      · exact ⟨rfl, by rw [lv_recv]; omega⟩
      · exact ⟨rfl, by rw [lv_bar]; omega⟩
  · rw [MayWait_zero]; iintro -; iempintro

end Cert.Run

end
-- ==== Proof.Steps.lean ====
/-
What each memory operation of the kernel does to the slots: loads, stores, transfers and waits.
-/
module

public import proofs.«01_k».proof.Proof.Sched
public import Idealize.ShloMosaic.Lib.ViewIndex

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

variable (X : Dev nD → Vec F S1024x128 .f32) (W : Dev nD → Vec F S128x1024 .f32)

/-- The invariants of all cells, and that all are in their first round. -/
def records (K : Dev nD × CK → ℕ) : sProp 𝕄 :=
  iprop((bigSep Finset.univ fun ck : Dev nD × CK => cellInv ER (rd X W) (K ck) (kcell ck))
    ∗ bigSep Finset.univ fun ck : Dev nD × CK => reached ER (kcell ck) 0)

instance records_persistent (K : Dev nD × CK → ℕ) : BI.Persistent (records X W K) := by unfold records; infer_instance

theorem inv_at (K : Dev nD × CK → ℕ) (ck : Dev nD × CK) :
    (bigSep Finset.univ fun ck : Dev nD × CK => (cellInv ER (rd X W) (K ck) (kcell ck) : sProp 𝕄)) ⊢ cellInv ER (rd X W) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)
theorem inv_of (K : Dev nD × CK → ℕ) (c : Dev nD) (k : CK) : records X W K ⊢ cellInv ER (rd X W) (K (c, k)) (kcell (c, k)) := by
  unfold records; iintro ⟨H, -⟩; iapply (inv_at X W K (c, k)); iexact H
theorem reached_of (K : Dev nD × CK → ℕ) (c : Dev nD) (k : CK) : records X W K ⊢ reached ER (kcell (c, k)) 0 := by
  unfold records; iintro ⟨-, H⟩; iapply (reached_at (F := F) (c, k)); iexact H

variable (K : Dev nD × CK → ℕ) (c : Dev nD)

/-! ## Loads and stores -/

/-- A load of a slot reads its contents. -/
theorem wp_loadSlot {sh : Shape} {e : EltTy} (m : Memref sig .tc .vmem sh e) (r : Rect sh) (hr : ∀ a, r.stride a = 1) (q : PosShare TreeShare)
    (Y : r.shape.Idx → Elt F e) {hl : m.view.LoadsAt r} {α : Type} {k : (r.shape.Idx → Elt F e) → Prog (TpuEff nD τ sig (Elt F) Λ₀ .tc) α} {Q : α → sProp 𝕄} :
    (owns (c : Thread nD τ) (m.slice r hr) q Y)
      ⊢ iprop((owns (c : Thread nD τ) (m.slice r hr) q Y -∗ wp frame (wpE (defs₀ (F := F)) 𝒱₀ (c : Thread nD τ) none) Set.univ (k Y) Q) -∗ wp frame (wpE (defs₀ (F := F)) 𝒱₀ (c : Thread nD τ) none) Set.univ (.op (.load m r.toLoadRect hl) k) Q) := by
  unfold owns
  iintro ⟨%f, %hf, H⟩ Hk
  iapply (wp_load_rect 𝒱₀ (c : Thread nD τ) none Set.univ (m := m) (r := r) (q := q) (f := f) (Finset.Subset.refl _)) $$ [H]
  · iexact H
  iintro H
  rw [show (m.access r).read (Elt F) f = Y from hf]
  iapply Hk
  iexists f
  isplitr; · (ipureintro; exact hf)
  iexact H

/-- A store to a slot leaves the stored value there. -/
theorem wp_storeSlot {sh : Shape} {e : EltTy} (m : Memref sig .tc .vmem sh e) (r : Rect sh) (hr : ∀ a, r.stride a = 1)
    (Y w : r.shape.Idx → Elt F e) {hx : (m.access r).Stores Finset.univ} {hm : Finset.univ = Finset.univ ∨ ∀ a, r.stride a = 1}
    {α : Type} {k : PUnit → Prog (TpuEff nD τ sig (Elt F) Λ₀ .tc) α} {Q : α → sProp 𝕄} :
    (owns (c : Thread nD τ) (m.slice r hr) fullShare Y)
      ⊢ iprop((owns (c : Thread nD τ) (m.slice r hr) fullShare w -∗ wp frame (wpE (defs₀ (F := F)) 𝒱₀ (c : Thread nD τ) none) Set.univ (k ⟨⟩) Q) -∗ wp frame (wpE (defs₀ (F := F)) 𝒱₀ (c : Thread nD τ) none) Set.univ (.op (.store m r w Finset.univ hx hm) k) Q) := by
  unfold owns
  iintro ⟨%f, %hf, H⟩ Hk
  iapply (wp_store 𝒱₀ (c : Thread nD τ) none Set.univ (m := m) (r := r) (w := w) (Mk := Finset.univ) (hx := hx) (hm := hm) (f := f) (S := (m.access r).set) (Finset.Subset.refl _)) $$ [H]
  · iexact H
  iintro H
  iapply Hk
  iexists ((m.access r).write (Elt F) f w Finset.univ)
  isplitr; · (ipureintro; exact View.read_write_univ (v := m.access r) f w)
  iexact H

/-! ## Transfers -/

omit [FloatOps F] in
/-- What a transfer writes into a slot, read as the kernel's loads read it. -/
theorem read_transfer (i : Fin 7) (s : Fin 12) (fs : (sM i).view.ty.Contents (Elt F)) (fd : (rM s).view.ty.Contents (Elt F)) :
    (rM s).view.read (Elt F) ((rQ s).view.write (Elt F) fd ((sQ i).view.read (Elt F) fs) Finset.univ) = (sM i).view.read (Elt F) fs := by
  funext x
  obtain ⟨y, rfl⟩ := (Shape.reshapeEquiv (s := S1x128x1024) (s' := S128x1024) (by decide)).surjective x
  exact View.read_write_reshape (v := (rM s).view) (by decide) fd _ y

/-- The transfer of slot `i` into the slot that it is for, at its moment in the order of the sends. -/
theorem wp_sendSlot (i : Fin 7) (s : Fin 12) (n : ℕ) (dv : Dev nD) (hdv : dv = dst c i) (hs : dsl c i = s) (hn : sendAt c i = n)
    (hi : ∀ i', sendAt c i' = n → i' = i)
    {hsc : (rQ s : Memref sig (Dev.tc dv : Thread nD τ).2.kind .vmem S128x1024 .bf16).view.ref.isScScratch = false}
    {hsrc : (sQ i).view.WordExact} {hdst : (rQ s).view.WordExact}
    {hsem : DmaTarget.Typed .vmem (.dma (recvS s)) (.remote (Dev.tc dv : Thread nD τ) (rQ s) (.dma (sendS i)) hsc)}
    {α : Type} {k : PUnit → Prog (TpuEff nD τ sig (Elt F) Λ₀ .tc) α} {Q : α → sProp 𝕄} (V : Waits sig Unit) :
    iprop(records X W K ∗ owns (c : Thread nD τ) (sM i) fullShare (sent X W c i) ∗ anyR (dst c i) (dsl c i)
        ∗ owes (c : Thread nD τ) (Owe c n) V ∗ dutyTok ER (sendCell c i) 0 0 ∗ dutyTok ER (recvCell (dst c i) (dsl c i)) 0 0)
      ⊢ iprop(((cred (tallyAt (sendCell c i) () N) ∗ owes (c : Thread nD τ) (Owe c (n + 1)) V) -∗ wp frame (wpE (defs₀ (F := F)) 𝒱₀ (c : Thread nD τ) none) Set.univ (k ⟨⟩) Q)
        -∗ wp frame (wpE (defs₀ (F := F)) 𝒱₀ (c : Thread nD τ) none) Set.univ (.op (.enqueueDma (sQ i) (.remote (Dev.tc dv : Thread nD τ) (rQ s) (.dma (sendS i)) hsc) (.dma (recvS s)) hsrc hdst hsem) k) Q) := by
  subst hdv; subst hs
  have hu := used_dst c i
  unfold anyR owns
  iintro ⟨#HR, ⟨%fs, %hfs, Hs⟩, ⟨%Y, %fd, -, Hd⟩, HO, Ht, Ht'⟩ Hk
  have hset (m : Memref sig .tc .vmem S1x128x1024 .bf16) : (m.squeeze S128x1024 squeezes_S1x128x1024_S128x1024).view.set = m.view.set :=
    View.set_reshape (v := m.view) _
  iapply (Rounds.wp_send_pointsTo 𝒱₀ ER (rd X W) (c : Thread nD τ) none (κ₁ := K (c, some (.inl i))) (κ₂ := K (dst c i, some (.inr (dsl c i))))
    (c' := (dst c i : Thread nD τ)) (src := sQ i) (dst := rQ (dsl c i)) (r₁ := 0) (r₂ := 0) (d₁ := 0) (d₂ := 0) (q := fullShare) (fs := fs) (fd := fd)
    (by rw [duties_send]; exact Finset.mem_singleton_self _) (by rw [duties_recv X W _ hu]; exact Finset.mem_singleton_self _)
    () () N rfl (amount_send X W c i 0) (amount_recv X W (dst c i) (dsl c i) 0) (Owe c (n + 1)) (Owe_step hn hi) (W := V)
    (by
      rw [payload_send]; unfold owns
      rw [hset (sM i)]
      iintro H; iexists fs; isplitr; · (ipureintro; exact hfs)
      iexact H)
    (by
      rw [payload_recv, landed, srcD_dst, srcI_dst]; unfold owns
      rw [hset (rM (dsl c i))]
      iintro H; iexists _
      isplitr; · (ipureintro; exact (read_transfer i (dsl c i) fs fd).trans hfs)
      iexact H)) $$ [Hs Hd HO Ht Ht']
  · isplitr; · iapply (inv_of X W K c (some (.inl i))); iexact HR
    isplitr; · iapply (inv_of X W K (dst c i) (some (.inr (dsl c i)))); iexact HR
    rw [hset (sM i), hset (rM (dsl c i))]
    isplitl [Hs]; · iexact Hs
    isplitl [Hd]; · iexact Hd
    isplitl [HO]; · iexact HO
    isplitl [Ht]; · iexact Ht
    isplitr; · iapply (reached_of X W K c (some (.inl i))); iexact HR
    isplitl [Ht']; · iexact Ht'
    iapply (reached_of X W K (dst c i) (some (.inr (dsl c i)))); iexact HR
  iexact Hk

/-! ## Waits -/

/-- The wait for an arrival: the slot comes with what was sent to it. -/
theorem wp_waitRecv (s : Fin 12) (hu : used c s) (n : ℕ) (hlt : ∀ i, n ≤ sendAt c i → slP s < slP (dsl c i))
    {h₁ : (rQ s).view.WordExact} {h₂ : (rQ s).view.WordExact}
    {α : Type} {k : PUnit → Prog (TpuEff nD τ sig (Elt F) Λ₀ .tc) α} {Q : α → sProp 𝕄} (V : Waits sig Unit) :
    iprop(records X W K ∗ levAts L lv ∗ cred (tallyAt (recvCell c s) () N) ∗ owes (c : Thread nD τ) (Owe c n) V ∗ atPos ER (recvCell c s) 0 ∅ 0)
      ⊢ iprop(((owes (c : Thread nD τ) (Owe c n) (insert (SemLoc.dma (recvS s), ()) V) ∗ atPos ER (recvCell c s) 1 ∅ 0
            ∗ owns (c : Thread nD τ) (rM s) fullShare (landed X W c s)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS s) (rQ s) (rQ s) h₁ h₂) k) Q) := by
  iintro ⟨#HR, #Hlev, Hc, HO, Hat⟩ Hk
  iapply (Rounds.wp_wait_rest_token 𝒱₀ ER (rd X W) (c : Thread nD τ) none (κ := K (c, some (.inr s)))
      (wpE_waitDma2_eq 𝒱₀ (c : Thread nD τ) none Set.univ) (Set.mem_univ _) () (O := Owe c n) (W := V) (R := 0) (m := 0) (T := ∅)
      (by rw [Nat.zero_add, expect_recv X W c hu])) $$ [Hc HO Hat]
  · isplitr; · iapply (inv_of X W K c (some (.inr s))); iexact HR
    isplitl [Hc]; · iexact Hc
    isplitl [HO]; · iexact HO
    isplitr; · iapply (mayWait_recv c s n hlt); iexact Hlev
    iexact Hat
  iintro ⟨HO, Hat, -, Hpay⟩
  iapply Hk
  isplitl [HO]; · iexact HO
  isplitl [Hat]; · iexact Hat
  iapply (Entails.of_eq (rest_recv X W c hu)); iexact Hpay

/-- The wait for a departure, when nothing is owed any more. -/
theorem wp_waitSend (i : Fin 7) {h₁ : (sQ i).view.WordExact} {h₂ : (sQ i).view.WordExact}
    {α : Type} {k : PUnit → Prog (TpuEff nD τ sig (Elt F) Λ₀ .tc) α} {Q : α → sProp 𝕄} (V : Waits sig Unit) :
    iprop(records X W K ∗ cred (tallyAt (sendCell c i) () N) ∗ owes (c : Thread nD τ) 0 V ∗ atPos ER (sendCell c i) 0 ∅ 0)
      ⊢ iprop(((owes (c : Thread nD τ) 0 (insert (SemLoc.dma (sendS i), ()) V) ∗ atPos ER (sendCell c i) 1 ∅ 0
            ∗ owns (c : Thread nD τ) (sM i) fullShare (sent X W c i)) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS i) (sQ i) (sQ i) h₁ h₂) k) Q) := by
  iintro ⟨#HR, Hc, HO, Hat⟩ Hk
  iapply (Rounds.wp_wait_rest_token 𝒱₀ ER (rd X W) (c : Thread nD τ) none (κ := K (c, some (.inl i)))
      (wpE_waitDma2_eq 𝒱₀ (c : Thread nD τ) none Set.univ) (Set.mem_univ _) () (O := 0) (W := V) (R := 0) (m := 0) (T := ∅)
      (by rw [Nat.zero_add, expect_send X W c i])) $$ [Hc HO Hat]
  · isplitr; · iapply (inv_of X W K c (some (.inl i))); iexact HR
    isplitl [Hc]; · iexact Hc
    isplitl [HO]; · iexact HO
    isplitr; · rw [MayWait_zero]; iempintro
    iexact Hat
  iintro ⟨HO, Hat, -, Hpay⟩
  iapply Hk
  isplitl [HO]; · iexact HO
  isplitl [Hat]; · iexact Hat
  iapply (Entails.of_eq (rest_send X W c i)); iexact Hpay

end Cert.Run

end
-- ==== Proof.Blocks.lean ====
/-
The kernel's conditional sends: each as one step of what a device holds, whether it executes it or not.
-/
module

public import proofs.«01_k».proof.Proof.Steps

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x128 .f32) (W : Dev nD → Vec F S128x1024 .f32) (K : Dev nD × CK → ℕ) (c : Dev nD)

/-! ## What a device holds in the course of its sends -/

/-- What stays the same: the cells' invariants and the levels. -/
def Cx : sProp 𝕄 := iprop(records X W K ∗ levAts L lv)
instance Cx_persistent : BI.Persistent (Cx X W K) := by unfold Cx; infer_instance

/-- The debts before the send `n`. -/
def Ow (n : ℕ) : sProp 𝕄 := iprop(∃ V, owes (c : Thread nD τ) (Owe c n) V)

/-- What `c` needs beside its slot `i` to send it: the slot of its neighbour, and the right to raise both semaphores. -/
def Tok (i : Fin 7) : sProp 𝕄 :=
  iprop(anyR (dst c i) (dsl c i) ∗ dutyTok ER (sendCell c i) 0 0 ∗ dutyTok ER (recvCell (dst c i) (dsl c i)) 0 0)

/-- Its slot `i`, holding `Y`, before the send `n`: the slot and the means to send it, or the claim to its departure. -/
def St (i : Fin 7) (Y : S1x128x1024.Idx → Elt F .bf16) (n : ℕ) : sProp 𝕄 :=
  if sendAt c i < n then cred (tallyAt (sendCell c i) () N) else iprop(owns (c : Thread nD τ) (sM i) fullShare Y ∗ Tok c i)

/-- Its receive slot `s`, not waited for, -/
def RP (s : Fin 12) : sProp 𝕄 :=
  iprop(atPos ER (recvCell c s) 0 ∅ 0 ∗ if used c s then cred (tallyAt (recvCell c s) () N) else anyR c s)
/-- and done with; -/
def RD (s : Fin 12) : sProp 𝕄 :=
  iprop(∃ R : ℕ, ⌜∀ r, R ≤ r → (rd X W).duties (recvCell c s) r = ∅⌝ ∗ atPos ER (recvCell c s) R ∅ 0 ∗ anyR c s)
/-- and a receive slot whose arrival is added to the slot `i` before that is sent, before the send `n`. -/
def Rs (s : Fin 12) (i : Fin 7) (n : ℕ) : sProp 𝕄 := if sendAt c i < n then RD X W c s else RP c s

theorem Ow_skip {n : ℕ} (h : ∀ i, sendAt c i ≠ n) : (Ow c n : sProp 𝕄) ⊢ Ow c (n + 1) := by unfold Ow; rw [Owe_skip h]

/-- A slot before its send, just written. -/
theorem St_intro {i : Fin 7} {Y : S1x128x1024.Idx → Elt F .bf16} {n : ℕ} (h : n ≤ sendAt c i) :
    iprop(owns (c : Thread nD τ) (sM i) fullShare Y ∗ Tok c i) ⊢ (St c i Y n : sProp 𝕄) := by
  unfold St; rw [if_neg (by omega)]

/-- A slot in which nothing arrives is done with. -/
theorem RD_of_unused {s : Fin 12} (h : ¬ used c s) : RP c s ⊢ RD X W c s := by
  unfold RP RD; rw [if_neg h]
  iintro ⟨Hat, H⟩
  iexists 0
  isplitr; · (ipureintro; exact duties_unused X W c h)
  isplitl [Hat] <;> iassumption

theorem RD_of_waited {s : Fin 12} {Y} :
    iprop(atPos ER (recvCell c s) 1 ∅ 0 ∗ owns (c : Thread nD τ) (rM s) fullShare Y) ⊢ RD X W c s := by
  unfold RD anyR
  iintro ⟨Hat, H⟩
  iexists 1
  isplitr; · (ipureintro; exact duties_later X W _)
  isplitl [Hat]; · iexact Hat
  iexists Y; iexact H

theorem Rs_intro {s : Fin 12} {i : Fin 7} {n : ℕ} (h : sendAt c i < n → ¬ used c s) : RP c s ⊢ Rs X W c s i n := by
  unfold Rs; split
  · rename_i h'; exact RD_of_unused X W c (h h')
  · exact BI.Entails.refl _

/-! ## The sends of the first round: nothing is waited for -/

theorem wp_send0 {i : Fin 7} {s : Fin 12} {n n' : ℕ} {cond : Prop} [Decidable cond] (hc : cond ↔ sendAt c i = n)
    (hn : ∀ c, sendAt c i < n' ↔ sendAt c i < n) (hi : ∀ c i', sendAt c i' = n → i' = i)
    (hs : ∀ c, sendAt c i = n → dsl c i = s ∧ depth c (i.val + 1) = 0)
    {dv : cond → Dev nD} (hdv : sendAt c i = n → ∀ h, (dv h).val = (dst c i).val)
    {hsc : ∀ h, (rQ s : Memref sig (Dev.tc (dv h) : Thread nD τ).2.kind .vmem S128x1024 .bf16).view.ref.isScScratch = false}
    {hsrc : (sQ i).view.WordExact} {hdst : (rQ s).view.WordExact}
    {hsem : ∀ h, DmaTarget.Typed .vmem (.dma (recvS s)) (.remote (Dev.tc (dv h) : Thread nD τ) (rQ s) (.dma (sendS i)) (hsc h))}
    {α : Type} {p : Prog (TpuEff nD τ sig (Elt F) Λ₀ .tc) α} {Q : α → sProp 𝕄} :
    iprop(Cx X W K ∗ Ow c n ∗ St c i (lv0 X W c i) n')
      ⊢ iprop(((Ow c (n + 1) ∗ St c i (lv0 X W c i) (n + 1)) -∗ wp frame (wpE (defs₀ (F := F)) 𝒱₀ (c : Thread nD τ) none) Set.univ p Q)
        -∗ wp frame (wpE (defs₀ (F := F)) 𝒱₀ (c : Thread nD τ) none) Set.univ (if h : cond then
            .op (.enqueueDma (sQ i) (.remote (Dev.tc (dv h) : Thread nD τ) (rQ s) (.dma (sendS i)) (hsc h)) (.dma (recvS s)) hsrc hdst (hsem h)) fun _ => p
          else p) Q) := by
  by_cases h : cond
  · rw [dif_pos h]
    have hn' := hc.mp h
    have hh := hn c
    unfold St; rw [if_neg (by omega), if_pos (by omega)]
    unfold Cx Ow Tok
    iintro ⟨⟨#HR, #Hlev⟩, HO, HS⟩ Hk
    icases HO with ⟨%V, HO⟩
    icases HS with ⟨HS, Hd, Ht, Ht'⟩
    iapply (wp_sendSlot X W K c i s n (dv h) (Fin.ext (hdv hn' h)) (hs c hn').1 hn' (hi c) V) $$ [HS Hd HO Ht Ht']
    · isplitr; · iexact HR
      isplitl [HS]; · rw [sent_zero X W (hs c hn').2]; iexact HS
      isplitl [Hd]; · iexact Hd
      isplitl [HO]; · iexact HO
      isplitl [Ht] <;> iassumption
    iintro ⟨Hc, HO⟩
    iapply Hk
    isplitl [HO]; · iexists V; iexact HO
    iexact Hc
  · rw [dif_neg h]
    have hh : sendAt c i ≠ n := fun h' => h (hc.mpr h')
    have := hn c
    unfold Cx St
    rw [if_congr (show sendAt c i < n + 1 ↔ sendAt c i < n' by omega) rfl rfl]
    iintro ⟨⟨#HR, #Hlev⟩, HO, HS⟩ Hk
    iapply Hk
    isplitl [HO]
    · iapply (Ow_skip c fun i' h' => hh ((hi c i' h') ▸ h')); iexact HO
    · iexact HS

/-! ## The sends of the second round: one arrival is added first -/

theorem wp_send1 {i : Fin 7} {s s' : Fin 12} {n n' : ℕ} {cond : Prop} [Decidable cond] (hc : cond ↔ sendAt c i = n)
    (hn : ∀ c, sendAt c i < n' ↔ sendAt c i < n) (hi : ∀ c i', sendAt c i' = n → i' = i)
    (hs : ∀ c, sendAt c i = n → dsl c i = s ∧ depth c (i.val + 1) = 1)
    (hf : first i = s') (hlt : ∀ c, sendAt c i = n → ∀ i', n ≤ sendAt c i' → slP s' < slP (dsl c i'))
    {dv : cond → Dev nD} (hdv : sendAt c i = n → ∀ h, (dv h).val = (dst c i).val)
    {hsc : ∀ h, (rQ s : Memref sig (Dev.tc (dv h) : Thread nD τ).2.kind .vmem S128x1024 .bf16).view.ref.isScScratch = false}
    {hsrc : (sQ i).view.WordExact} {hdst : (rQ s).view.WordExact}
    {hsem : ∀ h, DmaTarget.Typed .vmem (.dma (recvS s)) (.remote (Dev.tc (dv h) : Thread nD τ) (rQ s) (.dma (sendS i)) (hsc h))}
    {h₁ : (rQ s').view.WordExact} {h₂ : (rQ s').view.WordExact}
    {hl : sB.view.LoadsAt (rS i).toLoadRect} {hl' : rB.view.LoadsAt (rR s').toLoadRect} {hl'' : sB.view.LoadsAt (rS i).toLoadRect}
    {hx : (sB.access (rS i)).Stores Finset.univ} {hm : Finset.univ = Finset.univ ∨ ∀ a, (rS i).stride a = 1}
    {α : Type} {p : Prog (TpuEff nD τ sig (Elt F) Λ₀ .tc) α} {Q : α → sProp 𝕄} :
    iprop(Cx X W K ∗ Ow c n ∗ St c i (lv0 X W c i) n' ∗ Rs X W c s' i n')
      ⊢ iprop(((Ow c (n + 1) ∗ St c i (lv0 X W c i) (n + 1) ∗ Rs X W c s' i (n + 1)) -∗ wp frame (wpE (defs₀ (F := F)) 𝒱₀ (c : Thread nD τ) none) Set.univ p Q)
        -∗ wp frame (wpE (defs₀ (F := F)) 𝒱₀ (c : Thread nD τ) none) Set.univ (if h : cond then
            .op (.waitDma2 (recvS s') (rQ s') (rQ s') h₁ h₂) fun _ =>
            .op (.load sB (rS i).toLoadRect hl) fun v => .op (.load rB (rR s').toLoadRect hl') fun u => .op (.load sB (rS i).toLoadRect hl'') fun _ =>
            .op (.store sB (rS i) (k0_pay16 v u) Finset.univ hx hm) fun _ =>
            .op (.enqueueDma (sQ i) (.remote (Dev.tc (dv h) : Thread nD τ) (rQ s) (.dma (sendS i)) (hsc h)) (.dma (recvS s)) hsrc hdst (hsem h)) fun _ => p
          else p) Q) := by
  by_cases h : cond
  · rw [dif_pos h]
    have hn' := hc.mp h
    have hh := hn c
    have hu : used c s' := hf ▸ used_first c i (by rw [(hs c hn').2]; decide)
    unfold St Rs; rw [if_neg (by omega), if_neg (by omega), if_pos (by omega), if_pos (by omega)]
    unfold Cx Ow Tok RP; rw [if_pos hu]
    iintro ⟨⟨#HR, #Hlev⟩, HO, HS, HV⟩ Hk
    icases HO with ⟨%V, HO⟩
    icases HS with ⟨HS, Hd, Ht, Ht'⟩
    icases HV with ⟨Hat, Hcr⟩
    iapply (wp_waitRecv X W K c s' hu n (hlt c hn') V) $$ [HO Hat Hcr]
    · isplitr; · iexact HR
      isplitr; · iexact Hlev
      isplitl [Hcr]; · iexact Hcr
      isplitl [HO]; · iexact HO
      iexact Hat
    iintro ⟨HO, Hat, HV⟩
    iapply (wp_loadSlot c sB (rS i) (fun _ => rfl) fullShare (lv0 X W c i)) $$ HS; iintro HS
    iapply (wp_loadSlot c rB (rR s') (fun _ => rfl) fullShare (landed X W c s')) $$ HV; iintro HV
    iapply (wp_loadSlot c sB (rS i) (fun _ => rfl) fullShare (lv0 X W c i)) $$ HS; iintro HS
    iapply (wp_storeSlot c sB (rS i) (fun _ => rfl) (lv0 X W c i)) $$ HS; iintro HS
    iapply (wp_sendSlot X W K c i s n (dv h) (Fin.ext (hdv hn' h)) (hs c hn').1 hn' (hi c) _) $$ [HS Hd HO Ht Ht']
    · isplitr; · iexact HR
      isplitl [HS]; · rw [sent_one X W (hs c hn').2, hf]; iexact HS
      isplitl [Hd]; · iexact Hd
      isplitl [HO]; · iexact HO
      isplitl [Ht] <;> iassumption
    iintro ⟨Hc, HO⟩
    iapply Hk
    isplitl [HO]; · iexists _; iexact HO
    isplitl [Hc]; · iexact Hc
    iapply (RD_of_waited X W c (s := s') (Y := landed X W c s'))
    isplitl [Hat] <;> iassumption
  · rw [dif_neg h]
    have hh : sendAt c i ≠ n := fun h' => h (hc.mpr h')
    have := hn c
    unfold Cx St Rs
    simp only [show sendAt c i < n + 1 ↔ sendAt c i < n' by omega]
    iintro ⟨⟨#HR, #Hlev⟩, HO, HS, HV⟩ Hk
    iapply Hk
    isplitl [HO]
    · iapply (Ow_skip c fun i' h' => hh ((hi c i' h') ▸ h')); iexact HO
    isplitl [HS] <;> iassumption

/-! ## The sends of the third round: two arrivals are added first -/

theorem wp_send2 {i : Fin 7} {s s' s'' : Fin 12} {n n' : ℕ} {cond : Prop} [Decidable cond] (hc : cond ↔ sendAt c i = n)
    (hn : ∀ c, sendAt c i < n' ↔ sendAt c i < n) (hi : ∀ c i', sendAt c i' = n → i' = i)
    (hs : ∀ c, sendAt c i = n → dsl c i = s ∧ depth c (i.val + 1) = 2)
    (hf : first i = s') (hf' : second i = s'') (hlt : ∀ c, sendAt c i = n → ∀ i', n ≤ sendAt c i' → slP s' < slP (dsl c i') ∧ slP s'' < slP (dsl c i'))
    {dv : cond → Dev nD} (hdv : sendAt c i = n → ∀ h, (dv h).val = (dst c i).val)
    {hsc : ∀ h, (rQ s : Memref sig (Dev.tc (dv h) : Thread nD τ).2.kind .vmem S128x1024 .bf16).view.ref.isScScratch = false}
    {hsrc : (sQ i).view.WordExact} {hdst : (rQ s).view.WordExact}
    {hsem : ∀ h, DmaTarget.Typed .vmem (.dma (recvS s)) (.remote (Dev.tc (dv h) : Thread nD τ) (rQ s) (.dma (sendS i)) (hsc h))}
    {h₁ : (rQ s').view.WordExact} {h₂ : (rQ s').view.WordExact} {h₃ : (rQ s'').view.WordExact} {h₄ : (rQ s'').view.WordExact}
    {hl : sB.view.LoadsAt (rS i).toLoadRect} {hl' : rB.view.LoadsAt (rR s').toLoadRect} {hl'' : rB.view.LoadsAt (rR s'').toLoadRect}
    {hx : (sB.access (rS i)).Stores Finset.univ} {hm : Finset.univ = Finset.univ ∨ ∀ a, (rS i).stride a = 1}
    {α : Type} {p : Prog (TpuEff nD τ sig (Elt F) Λ₀ .tc) α} {Q : α → sProp 𝕄} :
    iprop(Cx X W K ∗ Ow c n ∗ St c i (lv0 X W c i) n' ∗ Rs X W c s' i n' ∗ Rs X W c s'' i n')
      ⊢ iprop(((Ow c (n + 1) ∗ St c i (lv0 X W c i) (n + 1) ∗ Rs X W c s' i (n + 1) ∗ Rs X W c s'' i (n + 1)) -∗ wp frame (wpE (defs₀ (F := F)) 𝒱₀ (c : Thread nD τ) none) Set.univ p Q)
        -∗ wp frame (wpE (defs₀ (F := F)) 𝒱₀ (c : Thread nD τ) none) Set.univ (if h : cond then
            .op (.waitDma2 (recvS s') (rQ s') (rQ s') h₁ h₂) fun _ =>
            .op (.load sB (rS i).toLoadRect hl) fun v => .op (.load rB (rR s').toLoadRect hl') fun u => .op (.load sB (rS i).toLoadRect hl) fun _ =>
            .op (.store sB (rS i) (k0_pay16 v u) Finset.univ hx hm) fun _ =>
            .op (.waitDma2 (recvS s'') (rQ s'') (rQ s'') h₃ h₄) fun _ =>
            .op (.load sB (rS i).toLoadRect hl) fun v => .op (.load rB (rR s'').toLoadRect hl'') fun u => .op (.load sB (rS i).toLoadRect hl) fun _ =>
            .op (.store sB (rS i) (k0_pay16 v u) Finset.univ hx hm) fun _ =>
            .op (.enqueueDma (sQ i) (.remote (Dev.tc (dv h) : Thread nD τ) (rQ s) (.dma (sendS i)) (hsc h)) (.dma (recvS s)) hsrc hdst (hsem h)) fun _ => p
          else p) Q) := by
  by_cases h : cond
  · rw [dif_pos h]
    have hn' := hc.mp h
    have hh := hn c
    have hd2 := (hs c hn').2
    have hu : used c s' := hf ▸ used_first c i (by rw [hd2]; decide)
    have hu' : used c s'' := hf' ▸ used_second c i (by rw [hd2]; decide) (by rw [hd2]; decide)
    unfold St Rs; rw [if_neg (by omega), if_neg (by omega), if_neg (by omega), if_pos (by omega), if_pos (by omega), if_pos (by omega)]
    unfold Cx Ow Tok RP; rw [if_pos hu, if_pos hu']
    iintro ⟨⟨#HR, #Hlev⟩, HO, HS, HV, HU⟩ Hk
    icases HO with ⟨%V, HO⟩
    icases HS with ⟨HS, Hd, Ht, Ht'⟩
    icases HV with ⟨Hat, Hcr⟩
    icases HU with ⟨Hau, Hcu⟩
    iapply (wp_waitRecv X W K c s' hu n (fun i' h' => (hlt c hn' i' h').1) V) $$ [HO Hat Hcr]
    · isplitr; · iexact HR
      isplitr; · iexact Hlev
      isplitl [Hcr]; · iexact Hcr
      isplitl [HO]; · iexact HO
      iexact Hat
    iintro ⟨HO, Hat, HV⟩
    iapply (wp_loadSlot c sB (rS i) (fun _ => rfl) fullShare (lv0 X W c i)) $$ HS; iintro HS
    iapply (wp_loadSlot c rB (rR s') (fun _ => rfl) fullShare (landed X W c s')) $$ HV; iintro HV
    iapply (wp_loadSlot c sB (rS i) (fun _ => rfl) fullShare (lv0 X W c i)) $$ HS; iintro HS
    iapply (wp_storeSlot c sB (rS i) (fun _ => rfl) (lv0 X W c i)) $$ HS; iintro HS
    iapply (wp_waitRecv X W K c s'' hu' n (fun i' h' => (hlt c hn' i' h').2) _) $$ [HO Hau Hcu]
    · isplitr; · iexact HR
      isplitr; · iexact Hlev
      isplitl [Hcu]; · iexact Hcu
      isplitl [HO]; · iexact HO
      iexact Hau
    iintro ⟨HO, Hau, HU⟩
    iapply (wp_loadSlot c sB (rS i) (fun _ => rfl) fullShare _) $$ HS; iintro HS
    iapply (wp_loadSlot c rB (rR s'') (fun _ => rfl) fullShare (landed X W c s'')) $$ HU; iintro HU
    iapply (wp_loadSlot c sB (rS i) (fun _ => rfl) fullShare _) $$ HS; iintro HS
    iapply (wp_storeSlot c sB (rS i) (fun _ => rfl) _) $$ HS; iintro HS
    iapply (wp_sendSlot X W K c i s n (dv h) (Fin.ext (hdv hn' h)) (hs c hn').1 hn' (hi c) _) $$ [HS Hd HO Ht Ht']
    · isplitr; · iexact HR
      isplitl [HS]; · rw [sent_two X W (by rw [hd2]; decide) (by rw [hd2]; decide), hf, hf']; iexact HS
      isplitl [Hd]; · iexact Hd
      isplitl [HO]; · iexact HO
      isplitl [Ht] <;> iassumption
    iintro ⟨Hc, HO⟩
    iapply Hk
    isplitl [HO]; · iexists _; iexact HO
    isplitl [Hc]; · iexact Hc
    isplitl [Hat HV]
    · iapply (RD_of_waited X W c (s := s') (Y := landed X W c s'))
      isplitl [Hat] <;> iassumption
    · iapply (RD_of_waited X W c (s := s'') (Y := landed X W c s''))
      isplitl [Hau] <;> iassumption
  · rw [dif_neg h]
    have hh : sendAt c i ≠ n := fun h' => h (hc.mpr h')
    have := hn c
    unfold Cx St Rs
    simp only [show sendAt c i < n + 1 ↔ sendAt c i < n' by omega]
    iintro ⟨⟨#HR, #Hlev⟩, HO, HS, HV, HU⟩ Hk
    iapply Hk
    isplitl [HO]
    · iapply (Ow_skip c fun i' h' => hh ((hi c i' h') ▸ h')); iexact HO
    isplitl [HS]; · iexact HS
    isplitl [HV] <;> iassumption

end Cert.Run

end
-- ==== Proof.Body.lean ====
/-
The parts of the kernel's body, each from what a device holds before it to what it holds after it.
-/
module

public import proofs.«01_k».proof.Proof.Blocks

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x128 .f32) (W : Dev nD → Vec F S128x1024 .f32) (K : Dev nD × CK → ℕ) (c : Dev nD)

/-! ## The operands and the slots before their use -/

/-- The device's staged columns of the left operand, -/
def Hx : sProp 𝕄 := (((c : Thread nD τ).loc cc0_stg0_0) ↦{fullShare} (X c : Buf (Elt F) ((c : Thread nD τ).loc cc0_stg0_0)))
/-- its staged rows of the right one, -/
def Hw : sProp 𝕄 := (((c : Thread nD τ).loc cc0_stg1_0) ↦{fullShare} (W c : Buf (Elt F) ((c : Thread nD τ).loc cc0_stg1_0)))
/-- and a send slot that is not written yet, with the means to send it. -/
def Fr (i : Fin 7) : sProp 𝕄 := iprop(anyS c i ∗ Tok c i)

/-- A load of 128 rows of the left operand reads the rows that are for the device `d`. -/
theorem wp_loadX (d : Dev nD) {o : Fin 2 → ℕ} (ho : ∀ a, o a + S128x128.size a ≤ S1024x128.size a) (hod : o = ![128 * d.val, 0])
    {hl : xB.view.LoadsAt (Rect.unit (s := S1024x128) o S128x128.size ho).toLoadRect} {α : Type}
    {k : Vec F S128x128 .f32 → Prog (TpuEff nD τ sig (Elt F) Λ₀ .tc) α} {Q : α → sProp 𝕄} :
    Hx X c ⊢ iprop((Hx X c -∗ wp frame (wpE (defs₀ (F := F)) 𝒱₀ (c : Thread nD τ) none) Set.univ (k (xrows d (X c))) Q)
      -∗ wp frame (wpE (defs₀ (F := F)) 𝒱₀ (c : Thread nD τ) none) Set.univ (.op (.load xB (Rect.unit (s := S1024x128) o S128x128.size ho).toLoadRect hl) k) Q) := by
  subst hod
  unfold Hx
  iintro H Hk
  iapply (wp_load 𝒱₀ (c : Thread nD τ) none Set.univ (m := xB) (S := Finset.univ) (Finset.subset_univ _)) $$ [H]
  · iexact H
  iintro H
  iapply Hk; iexact H

/-- The load of the right operand reads it. -/
theorem wp_loadW {hl : wB.view.LoadsAt (Rect.unit (s := S128x1024) ![0, 0] S128x1024.size inb_S128x1024_S128x1024_0_0).toLoadRect} {α : Type}
    {k : Vec F S128x1024 .f32 → Prog (TpuEff nD τ sig (Elt F) Λ₀ .tc) α} {Q : α → sProp 𝕄} :
    Hw W c ⊢ iprop((Hw W c -∗ wp frame (wpE (defs₀ (F := F)) 𝒱₀ (c : Thread nD τ) none) Set.univ (k (W c)) Q)
      -∗ wp frame (wpE (defs₀ (F := F)) 𝒱₀ (c : Thread nD τ) none) Set.univ (.op (.load wB (Rect.unit (s := S128x1024) ![0, 0] S128x1024.size inb_S128x1024_S128x1024_0_0).toLoadRect hl) k) Q) := by
  unfold Hw
  iintro H Hk
  iapply (wp_load 𝒱₀ (c : Thread nD τ) none Set.univ (m := wB) (S := Finset.univ) (Finset.subset_univ _)) $$ [H]
  · iexact H
  iintro H
  rw [show wB.view.readAt (Elt F) (Rect.unit (s := S128x1024) ![0, 0] S128x1024.size inb_S128x1024_S128x1024_0_0).toLoadRect (W c) = W c from
    Memref.readAt_unit_zero _ _ (by decide) _ _]
  iapply Hk; iexact H

/-- The first filling of a send slot: its old contents are read and dropped. -/
theorem wp_fill {i : Fin 7} {w : S1x128x1024.Idx → Elt F .bf16} {hl : sB.view.LoadsAt (rS i).toLoadRect}
    {hx : (sB.access (rS i)).Stores Finset.univ} {hm : Finset.univ = Finset.univ ∨ ∀ a, (rS i).stride a = 1} {α : Type}
    {k : PUnit → Prog (TpuEff nD τ sig (Elt F) Λ₀ .tc) α} {Q : α → sProp 𝕄} (hw : w = lv0 X W c i) :
    Fr c i ⊢ iprop((St c i (lv0 X W c i) 1 -∗ wp frame (wpE (defs₀ (F := F)) 𝒱₀ (c : Thread nD τ) none) Set.univ (k ⟨⟩) Q)
      -∗ wp frame (wpE (defs₀ (F := F)) 𝒱₀ (c : Thread nD τ) none) Set.univ
        (.op (.load sB (rS i).toLoadRect hl) fun _ => .op (.store sB (rS i) w Finset.univ hx hm) k) Q) := by
  subst hw
  unfold Fr anyS
  iintro ⟨⟨%Y, H⟩, Ht⟩ Hk
  iapply (wp_loadSlot c sB (rS i) (fun _ => rfl) fullShare Y) $$ H; iintro H
  iapply (wp_storeSlot c sB (rS i) (fun _ => rfl) Y) $$ H; iintro H
  iapply Hk
  iapply (St_intro c (sendAt_pos c i).1)
  isplitl [H] <;> iassumption

/-! ## The last waits -/

/-- The receive slot `s` after its wait; -/
def Rc (s : Fin 12) : sProp 𝕄 := iprop(atPos ER (recvCell c s) 1 ∅ 0 ∗ owns (c : Thread nD τ) (rM s) fullShare (landed X W c s))
/-- and the send slot `i` after its. -/
def SD (i : Fin 7) : sProp 𝕄 := iprop(atPos ER (sendCell c i) 1 ∅ 0 ∗ anyS c i)

/-- The wait for what a device adds to its own product. -/
theorem wp_take {s : Fin 12} (hs : s.val < 3) {h₁ : (rQ s).view.WordExact} {h₂ : (rQ s).view.WordExact}
    {α : Type} {k : PUnit → Prog (TpuEff nD τ sig (Elt F) Λ₀ .tc) α} {Q : α → sProp 𝕄} :
    iprop(Cx X W K ∗ Ow c 22 ∗ RP c s)
      ⊢ iprop(((Ow c 22 ∗ Rc X W c s) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (recvS s) (rQ s) (rQ s) h₁ h₂) k) Q) := by
  unfold Cx Ow RP; rw [if_pos (used_final c s hs)]
  iintro ⟨⟨#HR, #Hlev⟩, ⟨%V, HO⟩, Hat, Hcr⟩ Hk
  iapply (wp_waitRecv X W K c s (used_final c s hs) 22 (fun i h => absurd (sendAt_pos c i).2 (by omega)) V) $$ [HO Hat Hcr]
  · isplitr; · iexact HR
    isplitr; · iexact Hlev
    isplitl [Hcr]; · iexact Hcr
    isplitl [HO] <;> iassumption
  iintro ⟨HO, Hat, HV⟩
  iapply Hk
  isplitl [HO]; · iexists _; iexact HO
  unfold Rc; isplitl [Hat] <;> iassumption

/-- The wait for a send to have left. -/
theorem wp_drain {i : Fin 7} {Y : S1x128x1024.Idx → Elt F .bf16} {n : ℕ} (hn : ∀ c, sendAt c i < n)
    {h₁ : (sQ i).view.WordExact} {h₂ : (sQ i).view.WordExact}
    {α : Type} {k : PUnit → Prog (TpuEff nD τ sig (Elt F) Λ₀ .tc) α} {Q : α → sProp 𝕄} :
    iprop(Cx X W K ∗ Ow c 22 ∗ St c i Y n ∗ atPos ER (sendCell c i) 0 ∅ 0)
      ⊢ iprop(((Ow c 22 ∗ SD c i) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 (sendS i) (sQ i) (sQ i) h₁ h₂) k) Q) := by
  unfold Cx Ow St; rw [if_pos (hn c), Owe_end]
  iintro ⟨⟨#HR, #Hlev⟩, ⟨%V, HO⟩, Hcr, Hat⟩ Hk
  iapply (wp_waitSend X W K c i V) $$ [HO Hat Hcr]
  · isplitr; · iexact HR
    isplitl [Hcr]; · iexact Hcr
    isplitl [HO] <;> iassumption
  iintro ⟨HO, Hat, HV⟩
  iapply Hk
  isplitl [HO]; · iexists _; iexact HO
  unfold SD anyS; isplitl [Hat]; · iexact Hat
  iexists _; iexact HV

/-! ## The result -/

/-- The result's buffer, with any contents, -/
def Ho : sProp 𝕄 := iprop(∃ Y : Vec F S128x1024 .f32, ((c : Thread nD τ).loc cc0_stg2_0) ↦{fullShare} (Y : Buf (Elt F) ((c : Thread nD τ).loc cc0_stg2_0)))
/-- and with the device's part of the result. -/
def Hr : sProp 𝕄 := (((c : Thread nD τ).loc cc0_stg2_0) ↦{fullShare} (outAt X W c : Buf (Elt F) ((c : Thread nD τ).loc cc0_stg2_0)))

/-- A receive slot is read and done with. -/
theorem wp_loadRc {s : Fin 12} {hl : rB.view.LoadsAt (rR s).toLoadRect} {α : Type}
    {k : Vec F S1x128x1024 .bf16 → Prog (TpuEff nD τ sig (Elt F) Λ₀ .tc) α} {Q : α → sProp 𝕄} :
    Rc X W c s ⊢ iprop((RD X W c s -∗ wp frame (wpE (defs₀ (F := F)) 𝒱₀ (c : Thread nD τ) none) Set.univ (k (landed X W c s)) Q) -∗ wp frame (wpE (defs₀ (F := F)) 𝒱₀ (c : Thread nD τ) none) Set.univ (.op (.load rB (rR s).toLoadRect hl) k) Q) := by
  unfold Rc
  iintro ⟨Hat, H⟩ Hk
  iapply (wp_loadSlot c rB (rR s) (fun _ => rfl) fullShare (landed X W c s)) $$ H; iintro H
  iapply Hk
  iapply (RD_of_waited X W c (s := s) (Y := landed X W c s))
  isplitl [Hat] <;> iassumption

omit [FloatOps F] in
theorem write_result (f w : (cc0_stg2_0 : Ref sig .tc).ty.Contents (Elt F)) :
    ((oB : Memref sig .tc .vmem S128x1024 .f32).access (Rect.unit (s := S128x1024) ![0, 0] S128x1024.size inb_S128x1024_S128x1024_0_0) : View sig .tc _ _ _).write (Elt F) f w Finset.univ = w :=
  Memref.write_access_unit_zero_univ (Elt F) cc0_stg2_0 (by decide) _ f w

/-- The result's buffer is read, and the result stored over it. -/
theorem wp_result {hl : oB.view.LoadsAt (Rect.unit (s := S128x1024) ![0, 0] S128x1024.size inb_S128x1024_S128x1024_0_0).toLoadRect}
    {hx : (oB.access (Rect.unit (s := S128x1024) ![0, 0] S128x1024.size inb_S128x1024_S128x1024_0_0)).Stores Finset.univ}
    {hm : Finset.univ = Finset.univ ∨ ∀ a, (Rect.unit (s := S128x1024) ![0, 0] S128x1024.size inb_S128x1024_S128x1024_0_0).stride a = 1} {α : Type}
    {k : PUnit → Prog (TpuEff nD τ sig (Elt F) Λ₀ .tc) α} {Q : α → sProp 𝕄} :
    Ho c ⊢ iprop((Hr X W c -∗ wp frame (wpE (defs₀ (F := F)) 𝒱₀ (c : Thread nD τ) none) Set.univ (k ⟨⟩) Q) -∗ wp frame (wpE (defs₀ (F := F)) 𝒱₀ (c : Thread nD τ) none) Set.univ
      (.op (.load oB (Rect.unit (s := S128x1024) ![0, 0] S128x1024.size inb_S128x1024_S128x1024_0_0).toLoadRect hl) fun _ =>
       .op (.store oB (Rect.unit (s := S128x1024) ![0, 0] S128x1024.size inb_S128x1024_S128x1024_0_0) (outAt X W c) Finset.univ hx hm) k) Q) := by
  unfold Ho Hr
  iintro ⟨%Y, H⟩ Hk
  iapply (wp_load 𝒱₀ (c : Thread nD τ) none Set.univ (m := oB) (S := Finset.univ) (Finset.subset_univ _)) $$ [H]
  · iexact H
  iintro H
  iapply (wp_store 𝒱₀ (c : Thread nD τ) none Set.univ (m := oB) (S := Finset.univ) (Finset.subset_univ _)) $$ [H]
  · iexact H
  iintro H
  rw [write_result]
  iapply Hk; iexact H

/-! ## The parts -/

variable {h0 : xB.IsWhole} {h1 : wB.IsWhole} {h2 : oB.IsWhole} {h3 : sB.IsWhole} {h4 : rB.IsWhole}

/-- The slots for the neighbours at offsets 7 and 3, and their first sends. -/
theorem part13 {v153 v155 v207 v263 v288 v313 v338 : BitVec 32} {Q : FVec F S128x128 .f32 → sProp 𝕄} :
    iprop(Cx X W K ∗ Hx X c ∗ Hw W c ∗ Ow c 1 ∗ Fr c 6 ∗ Fr c 2)
      ⊢ iprop(((Hx X c ∗ Hw W c ∗ Ow c 6 ∗ St c 6 (lv0 X W c 6) 4 ∗ St c 2 (lv0 X W c 2) 6) -∗ Q (k0_pay7 (xrows (across c 5) (X c))))
        -∗ wp frame (wpE (defs₀ (F := F)) 𝒱₀ (c : Thread nD τ) none) Set.univ
          (k0_part13 xB h0 wB h1 oB h2 sB h3 rB h4 cc0_scratch2 cc0_scratch3 c v153 v155 v207 v263 v288 v313 v338
            (k0_pay4 (xrows (across c 7) (X c)) (W c))) Q) := by
  rw [k0_part13_eq_skeleton]; unfold k0_part13_skel
  simp only [Prog.lift, Prog.bind_op, Prog.bind_ret, Prog.pure_eq_ret, Prog.bind_assoc]
  iintro ⟨#HC, Hx, Hw, HO, H6, H2⟩ Hk
  iapply (wp_fill X W c (i := 6) rfl) $$ H6; iintro H6
  iapply (wp_send0 X W K c (i := 6) (s := 11) (n := 1) (n' := 1) (cond1 c) (by decide +kernel) (by decide +kernel) (by decide +kernel) (fun h _ => dev4 c h)) $$ [HO H6]
  · isplitr; · iexact HC
    isplitl [HO] <;> iassumption
  iintro ⟨HO, H6⟩
  iapply (wp_send0 X W K c (i := 6) (s := 10) (n := 2) (n' := 2) (cond2 c) (by decide +kernel) (by decide +kernel) (by decide +kernel) (fun h _ => dev5 c h)) $$ [HO H6]
  · isplitr; · iexact HC
    isplitl [HO] <;> iassumption
  iintro ⟨HO, H6⟩
  iapply (wp_send0 X W K c (i := 6) (s := 9) (n := 3) (n' := 3) (cond3 c) (by decide +kernel) (by decide +kernel) (by decide +kernel) (fun h _ => dev6 c h)) $$ [HO H6]
  · isplitr; · iexact HC
    isplitl [HO] <;> iassumption
  iintro ⟨HO, H6⟩
  iapply (wp_loadX X c (across c 3) _ (off1 c 1)) $$ Hx; iintro Hx
  iapply (wp_loadW W c) $$ Hw; iintro Hw
  iapply (wp_fill X W c (i := 2) rfl) $$ H2; iintro H2
  iapply (wp_send0 X W K c (i := 2) (s := 5) (n := 4) (n' := 1) (cond4 c) (by decide +kernel) (by decide +kernel) (by decide +kernel) (fun h _ => dev7 c h)) $$ [HO H2]
  · isplitr; · iexact HC
    isplitl [HO] <;> iassumption
  iintro ⟨HO, H2⟩
  iapply (wp_send0 X W K c (i := 2) (s := 3) (n := 5) (n' := 5) (cond5 c) (by decide +kernel) (by decide +kernel) (by decide +kernel) (fun h _ => dev8 c h)) $$ [HO H2]
  · isplitr; · iexact HC
    isplitl [HO] <;> iassumption
  iintro ⟨HO, H2⟩
  iapply (wp_loadX X c (across c 5) _ (off1 c 2)) $$ Hx; iintro Hx
  rw [wp_ret]; imodintro
  iapply Hk
  isplitl [Hx]; · iexact Hx
  isplitl [Hw]; · iexact Hw
  isplitl [HO]; · iexact HO
  isplitl [H6] <;> iassumption

/-- The slots for the neighbours at offsets 5 and 6, and their first sends. -/
theorem part14 {v99 v209 v234 v236 v288 v313 v338 : BitVec 32} {Q : BitVec 32 → sProp 𝕄} :
    iprop(Cx X W K ∗ Hx X c ∗ Hw W c ∗ Ow c 6 ∗ Fr c 4 ∗ Fr c 5)
      ⊢ iprop(((Hx X c ∗ Hw W c ∗ Ow c 10 ∗ St c 4 (lv0 X W c 4) 8 ∗ St c 5 (lv0 X W c 5) 10) -∗ Q (Scalar.muli v99 128#32))
        -∗ wp frame (wpE (defs₀ (F := F)) 𝒱₀ (c : Thread nD τ) none) Set.univ (k0_part14 xB h0 wB h1 oB h2 sB h3 rB h4 cc0_scratch2 cc0_scratch3 c v99 v209 v234 v236 v288 v313 v338 (k0_pay7 (xrows (across c 5) (X c)))) Q) := by
  rw [k0_part14_eq_skeleton]; unfold k0_part14_skel
  simp only [Prog.lift, Prog.bind_op, Prog.bind_ret, Prog.pure_eq_ret]
  iintro ⟨#HC, Hx, Hw, HO, H4, H5⟩ Hk
  iapply (wp_loadW W c) $$ Hw; iintro Hw
  iapply (wp_fill X W c (i := 4) rfl) $$ H4; iintro H4
  iapply (wp_send0 X W K c (i := 4) (s := 7) (n := 6) (n' := 1) (cond6 c) (by decide +kernel) (by decide +kernel) (by decide +kernel) (fun h _ => dev9 c h)) $$ [HO H4]
  · isplitr; · iexact HC
    isplitl [HO] <;> iassumption
  iintro ⟨HO, H4⟩
  iapply (wp_send0 X W K c (i := 4) (s := 3) (n := 7) (n' := 7) (cond7 c) (by decide +kernel) (by decide +kernel) (by decide +kernel) (fun h _ => dev10 c h)) $$ [HO H4]
  · isplitr; · iexact HC
    isplitl [HO] <;> iassumption
  iintro ⟨HO, H4⟩
  iapply (wp_loadX X c (across c 6) _ (off1 c 3)) $$ Hx; iintro Hx
  iapply (wp_loadW W c) $$ Hw; iintro Hw
  iapply (wp_fill X W c (i := 5) rfl) $$ H5; iintro H5
  iapply (wp_send0 X W K c (i := 5) (s := 7) (n := 8) (n' := 1) (cond8 c) (by decide +kernel) (by decide +kernel) (by decide +kernel) (fun h _ => dev11 c h)) $$ [HO H5]
  · isplitr; · iexact HC
    isplitl [HO] <;> iassumption
  iintro ⟨HO, H5⟩
  iapply (wp_send0 X W K c (i := 5) (s := 5) (n := 9) (n' := 9) (cond9 c) (by decide +kernel) (by decide +kernel) (by decide +kernel) (fun h _ => dev12 c h)) $$ [HO H5]
  · isplitr; · iexact HC
    isplitl [HO] <;> iassumption
  iintro ⟨HO, H5⟩
  rw [wp_ret]; imodintro
  iapply Hk
  isplitl [Hx]; · iexact Hx
  isplitl [Hw]; · iexact Hw
  isplitl [HO]; · iexact HO
  isplitl [H4] <;> iassumption

/-- Those at offsets 1 and 2, and their first sends. -/
theorem part15 {v101 v126 v128 v180 v288 v313 v417 : BitVec 32} {Q : (Σ' (_ : FVec F S128x128 .f32), FVec F S128x1024 .f32) → sProp 𝕄} :
    iprop(Cx X W K ∗ Hx X c ∗ Hw W c ∗ Ow c 10 ∗ Fr c 0 ∗ Fr c 1)
      ⊢ iprop(((Hx X c ∗ Hw W c ∗ Ow c 12 ∗ St c 0 (lv0 X W c 0) 11 ∗ St c 1 (lv0 X W c 1) 12) -∗ Q ⟨k0_pay12 (xrows (across c 4) (X c)), k0_pay13 (W c)⟩)
        -∗ wp frame (wpE (defs₀ (F := F)) 𝒱₀ (c : Thread nD τ) none) Set.univ (k0_part15 xB h0 wB h1 oB h2 sB h3 rB h4 cc0_scratch2 cc0_scratch3 c v101 v126 v128 v180 v288 v313 v417) Q) := by
  rw [k0_part15_eq_skeleton]; unfold k0_part15_skel
  simp only [Prog.lift, Prog.bind_op, Prog.bind_ret, Prog.pure_eq_ret]
  iintro ⟨#HC, Hx, Hw, HO, H0, H1⟩ Hk
  iapply (wp_loadX X c (across c 1) _ (off1 c 4)) $$ Hx; iintro Hx
  iapply (wp_loadW W c) $$ Hw; iintro Hw
  iapply (wp_fill X W c (i := 0) rfl) $$ H0; iintro H0
  iapply (wp_send0 X W K c (i := 0) (s := 0) (n := 10) (n' := 1) (cond10 c) (by decide +kernel) (by decide +kernel) (by decide +kernel) (fun h _ => dev13 c h)) $$ [HO H0]
  · isplitr; · iexact HC
    isplitl [HO] <;> iassumption
  iintro ⟨HO, H0⟩
  iapply (wp_loadX X c (across c 2) _ (off1 c 5)) $$ Hx; iintro Hx
  iapply (wp_loadW W c) $$ Hw; iintro Hw
  iapply (wp_fill X W c (i := 1) rfl) $$ H1; iintro H1
  iapply (wp_send0 X W K c (i := 1) (s := 0) (n := 11) (n' := 1) (cond11 c) (by decide +kernel) (by decide +kernel) (by decide +kernel) (fun h _ => dev14 c h)) $$ [HO H1]
  · isplitr; · iexact HC
    isplitl [HO] <;> iassumption
  iintro ⟨HO, H1⟩
  iapply (wp_loadX X c (across c 4) _ (off1 c 6)) $$ Hx; iintro Hx
  iapply (wp_loadW W c) $$ Hw; iintro Hw
  rw [wp_ret]; imodintro
  iapply Hk
  isplitl [Hx]; · iexact Hx
  isplitl [Hw]; · iexact Hw
  isplitl [HO]; · iexact HO
  isplitl [H0] <;> iassumption

/-- The slot for the neighbour at offset 4 and its first send, the device's own product, and the second sends but one. -/
theorem part16 {v2 v101 v128 v155 v182 v209 v236 v288 v313 v338 : BitVec 32} {Q : (Σ' (_ : FVec F S128x1024 .f32), BitVec 1) → sProp 𝕄} :
    iprop(Cx X W K ∗ Hx X c ∗ Hw W c ∗ Ow c 12 ∗ Fr c 3 ∗ St c 0 (lv0 X W c 0) 11 ∗ St c 1 (lv0 X W c 1) 12 ∗ St c 2 (lv0 X W c 2) 6 ∗ St c 4 (lv0 X W c 4) 8 ∗ Rs X W c 3 0 11 ∗ Rs X W c 5 1 12 ∗ Rs X W c 9 2 6 ∗ Rs X W c 7 3 13 ∗ Rs X W c 10 4 8)
      ⊢ iprop(((Hx X c ∗ Hw W c ∗ Ow c 18 ∗ St c 3 (lv0 X W c 3) 17 ∗ St c 0 (lv0 X W c 0) 14 ∗ St c 1 (lv0 X W c 1) 15 ∗ St c 2 (lv0 X W c 2) 16 ∗ St c 4 (lv0 X W c 4) 18 ∗ Rs X W c 3 0 14 ∗ Rs X W c 5 1 15 ∗ Rs X W c 9 2 16 ∗ Rs X W c 7 3 17 ∗ Rs X W c 10 4 18) -∗ Q ⟨k0_pay15 (xrows c (X c)) (W c), Scalar.cmpi .eq v236 0#32⟩)
        -∗ wp frame (wpE (defs₀ (F := F)) 𝒱₀ (c : Thread nD τ) none) Set.univ (k0_part16 xB h0 wB h1 oB h2 sB h3 rB h4 cc0_scratch2 cc0_scratch3 c v2 v101 v128 v155 v182 v209 v236 v288 v313 v338 (k0_pay12 (xrows (across c 4) (X c))) (k0_pay13 (W c))) Q) := by
  rw [k0_part16_eq_skeleton]; unfold k0_part16_skel
  simp only [Prog.lift, Prog.bind_op, Prog.bind_ret, Prog.pure_eq_ret]
  iintro ⟨#HC, Hx, Hw, HO, H3, H0, H1, H2, H4, R3, R5, R9, R7, R10⟩ Hk
  iapply (wp_fill X W c (i := 3) rfl) $$ H3; iintro H3
  iapply (wp_send0 X W K c (i := 3) (s := 0) (n := 12) (n' := 1) (cond12 c) (by decide +kernel) (by decide +kernel) (by decide +kernel) (fun h _ => dev15 c h)) $$ [HO H3]
  · isplitr; · iexact HC
    isplitl [HO] <;> iassumption
  iintro ⟨HO, H3⟩
  iapply (wp_loadX X c c _ (off2 c)) $$ Hx; iintro Hx
  iapply (wp_loadW W c) $$ Hw; iintro Hw
  iapply (wp_send1 X W K c (i := 0) (s := 1) (s' := 3) (n := 13) (n' := 11) (cond13 c) (by decide +kernel) (by decide +kernel) (by decide +kernel) rfl (by decide +kernel) (fun h _ => dev16 c h)) $$ [HO H0 R3]
  · isplitr; · iexact HC
    isplitl [HO]; · iexact HO
    isplitl [H0] <;> iassumption
  iintro ⟨HO, H0, R3⟩
  iapply (wp_send1 X W K c (i := 1) (s := 1) (s' := 5) (n := 14) (n' := 12) (cond14 c) (by decide +kernel) (by decide +kernel) (by decide +kernel) rfl (by decide +kernel) (fun h _ => dev17 c h)) $$ [HO H1 R5]
  · isplitr; · iexact HC
    isplitl [HO]; · iexact HO
    isplitl [H1] <;> iassumption
  iintro ⟨HO, H1, R5⟩
  iapply (wp_send1 X W K c (i := 2) (s := 6) (s' := 9) (n := 15) (n' := 6) (cond15 c) (by decide +kernel) (by decide +kernel) (by decide +kernel) rfl (by decide +kernel) (fun h _ => dev18 c h)) $$ [HO H2 R9]
  · isplitr; · iexact HC
    isplitl [HO]; · iexact HO
    isplitl [H2] <;> iassumption
  iintro ⟨HO, H2, R9⟩
  iapply (wp_send1 X W K c (i := 3) (s := 1) (s' := 7) (n := 16) (n' := 13) (cond16 c) (by decide +kernel) (by decide +kernel) (by decide +kernel) rfl (by decide +kernel) (fun h _ => dev19 c h)) $$ [HO H3 R7]
  · isplitr; · iexact HC
    isplitl [HO]; · iexact HO
    isplitl [H3] <;> iassumption
  iintro ⟨HO, H3, R7⟩
  iapply (wp_send1 X W K c (i := 4) (s := 4) (s' := 10) (n := 17) (n' := 8) (cond17 c) (by decide +kernel) (by decide +kernel) (by decide +kernel) rfl (by decide +kernel) (fun h _ => dev20 c h)) $$ [HO H4 R10]
  · isplitr; · iexact HC
    isplitl [HO]; · iexact HO
    isplitl [H4] <;> iassumption
  iintro ⟨HO, H4, R10⟩
  rw [wp_ret]; imodintro
  iapply Hk
  isplitl [Hx]; · iexact Hx
  isplitl [Hw]; · iexact Hw
  isplitl [HO]; · iexact HO
  isplitl [H3]; · iexact H3
  isplitl [H0]; · iexact H0
  isplitl [H1]; · iexact H1
  isplitl [H2]; · iexact H2
  isplitl [H4]; · iexact H4
  isplitl [R3]; · iexact R3
  isplitl [R5]; · iexact R5
  isplitl [R9]; · iexact R9
  isplitl [R7] <;> iassumption

/-- The last of the second sends, the third sends, and the first two arrivals of what is for the device itself. -/
theorem part17 {v2 v101 v128 v182 v288 v313 v338 : BitVec 32} {v481 : BitVec 1} {Q : PUnit → sProp 𝕄} :
    iprop(Cx X W K ∗ Ow c 18 ∗ St c 0 (lv0 X W c 0) 14 ∗ St c 1 (lv0 X W c 1) 15 ∗ St c 3 (lv0 X W c 3) 17 ∗ St c 5 (lv0 X W c 5) 10 ∗ Rs X W c 11 5 10 ∗ Rs X W c 3 0 14 ∗ Rs X W c 4 0 14 ∗ Rs X W c 5 1 15 ∗ Rs X W c 6 1 15 ∗ Rs X W c 7 3 17 ∗ Rs X W c 8 3 17 ∗ RP c 0 ∗ RP c 1)
      ⊢ iprop(((Ow c 22 ∗ St c 0 (lv0 X W c 0) 20 ∗ St c 1 (lv0 X W c 1) 21 ∗ St c 3 (lv0 X W c 3) 22 ∗ St c 5 (lv0 X W c 5) 19 ∗ Rs X W c 11 5 19 ∗ Rs X W c 3 0 20 ∗ Rs X W c 4 0 20 ∗ Rs X W c 5 1 21 ∗ Rs X W c 6 1 21 ∗ Rs X W c 7 3 22 ∗ Rs X W c 8 3 22 ∗ Rc X W c 0 ∗ Rc X W c 1) -∗ Q ⟨⟩)
        -∗ wp frame (wpE (defs₀ (F := F)) 𝒱₀ (c : Thread nD τ) none) Set.univ (k0_part17 xB h0 wB h1 oB h2 sB h3 rB h4 cc0_scratch2 cc0_scratch3 c v2 v101 v128 v182 v288 v313 v338 v481) Q) := by
  rw [k0_part17_eq_skeleton]; unfold k0_part17_skel
  simp only [k0_part1_eq_skeleton, k0_part2_eq_skeleton, k0_part3_eq_skeleton, k0_part1_skel, k0_part2_skel, k0_part3_skel, Prog.lift, Prog.bind_op, Prog.bind_ret, Prog.pure_eq_ret]
  iintro ⟨#HC, HO, H0, H1, H3, H5, R11, R3, R4, R5, R6, R7, R8, R0, R1⟩ Hk
  iapply (wp_send1 X W K c (i := 5) (s := 8) (s' := 11) (n := 18) (n' := 10) (cond18 c) (by decide +kernel) (by decide +kernel) (by decide +kernel) rfl (by decide +kernel) (fun h _ => dev21 c h)) $$ [HO H5 R11]
  · isplitr; · iexact HC
    isplitl [HO]; · iexact HO
    isplitl [H5] <;> iassumption
  iintro ⟨HO, H5, R11⟩
  iapply (wp_send2 X W K c (i := 0) (s := 2) (s' := 3) (s'' := 4) (n := 19) (n' := 14) (cond19 c) (by decide +kernel) (by decide +kernel) (by decide +kernel) rfl rfl (by decide +kernel) (fun h _ => dev22 c h)) $$ [HO H0 R3 R4]
  · isplitr; · iexact HC
    isplitl [HO]; · iexact HO
    isplitl [H0]; · iexact H0
    isplitl [R3] <;> iassumption
  iintro ⟨HO, H0, R3, R4⟩
  iapply (wp_send2 X W K c (i := 1) (s := 2) (s' := 5) (s'' := 6) (n := 20) (n' := 15) (cond20 c) (by decide +kernel) (by decide +kernel) (by decide +kernel) rfl rfl (by decide +kernel) (fun h _ => dev23 c h)) $$ [HO H1 R5 R6]
  · isplitr; · iexact HC
    isplitl [HO]; · iexact HO
    isplitl [H1]; · iexact H1
    isplitl [R5] <;> iassumption
  iintro ⟨HO, H1, R5, R6⟩
  iapply (wp_send2 X W K c (i := 3) (s := 2) (s' := 7) (s'' := 8) (n := 21) (n' := 17) (cond21 c) (by decide +kernel) (by decide +kernel) (by decide +kernel) rfl rfl (by decide +kernel) (fun h _ => dev24 c h)) $$ [HO H3 R7 R8]
  · isplitr; · iexact HC
    isplitl [HO]; · iexact HO
    isplitl [H3]; · iexact H3
    isplitl [R7] <;> iassumption
  iintro ⟨HO, H3, R7, R8⟩
  iapply (wp_take X W K c (s := 0) (by decide)) $$ [HO R0]
  · isplitr; · iexact HC
    isplitl [HO] <;> iassumption
  iintro ⟨HO, R0⟩
  iapply (wp_take X W K c (s := 1) (by decide)) $$ [HO R1]
  · isplitr; · iexact HC
    isplitl [HO] <;> iassumption
  iintro ⟨HO, R1⟩
  rw [wp_ret]; imodintro
  iapply Hk
  isplitl [HO]; · iexact HO
  isplitl [H0]; · iexact H0
  isplitl [H1]; · iexact H1
  isplitl [H3]; · iexact H3
  isplitl [H5]; · iexact H5
  isplitl [R11]; · iexact R11
  isplitl [R3]; · iexact R3
  isplitl [R4]; · iexact R4
  isplitl [R5]; · iexact R5
  isplitl [R6]; · iexact R6
  isplitl [R7]; · iexact R7
  isplitl [R8]; · iexact R8
  isplitl [R0] <;> iassumption

/-- The third arrival, and the result. -/
theorem part18 {v2 : BitVec 32} {Q : PUnit → sProp 𝕄} :
    iprop(Cx X W K ∗ Ow c 22 ∗ Ho c ∗ Rc X W c 0 ∗ Rc X W c 1 ∗ RP c 2)
      ⊢ iprop(((Ow c 22 ∗ Hr X W c ∗ RD X W c 0 ∗ RD X W c 1 ∗ RD X W c 2) -∗ Q ⟨⟩)
        -∗ wp frame (wpE (defs₀ (F := F)) 𝒱₀ (c : Thread nD τ) none) Set.univ (k0_part18 xB h0 wB h1 oB h2 sB h3 rB h4 cc0_scratch2 cc0_scratch3 v2 (k0_pay15 (xrows c (X c)) (W c))) Q) := by
  rw [k0_part18_eq_skeleton]; unfold k0_part18_skel
  simp only [Prog.lift, Prog.bind_op, Prog.bind_ret, Prog.pure_eq_ret]
  iintro ⟨#HC, HO, Ho, R0, R1, R2⟩ Hk
  iapply (wp_take X W K c (s := 2) (by decide)) $$ [HO R2]
  · isplitr; · iexact HC
    isplitl [HO] <;> iassumption
  iintro ⟨HO, R2⟩
  iapply (wp_loadRc X W c (s := 0)) $$ R0; iintro R0
  iapply (wp_loadRc X W c (s := 1)) $$ R1; iintro R1
  iapply (wp_loadRc X W c (s := 2)) $$ R2; iintro R2
  iapply (wp_result X W c) $$ Ho; iintro Ho
  rw [wp_ret]; imodintro
  iapply Hk
  isplitl [HO]; · iexact HO
  isplitl [Ho]; · iexact Ho
  isplitl [R0]; · iexact R0
  isplitl [R1] <;> iassumption

/-- The waits for the first four slots to have left. -/
theorem part19 {Q : PUnit → sProp 𝕄} :
    iprop(Cx X W K ∗ Ow c 22 ∗ St c 0 (lv0 X W c 0) 20 ∗ atPos ER (sendCell c 0) 0 ∅ 0 ∗ St c 1 (lv0 X W c 1) 21 ∗ atPos ER (sendCell c 1) 0 ∅ 0 ∗ St c 2 (lv0 X W c 2) 16 ∗ atPos ER (sendCell c 2) 0 ∅ 0 ∗ St c 3 (lv0 X W c 3) 22 ∗ atPos ER (sendCell c 3) 0 ∅ 0)
      ⊢ iprop(((Ow c 22 ∗ SD c 0 ∗ SD c 1 ∗ SD c 2 ∗ SD c 3) -∗ Q ⟨⟩)
        -∗ wp frame (wpE (defs₀ (F := F)) 𝒱₀ (c : Thread nD τ) none) Set.univ (k0_part19 xB h0 wB h1 oB h2 sB h3 rB h4 cc0_scratch2 cc0_scratch3 ) Q) := by
  rw [k0_part19_eq_skeleton]; unfold k0_part19_skel
  simp only [Prog.lift, Prog.bind_op, Prog.bind_ret, Prog.pure_eq_ret]
  iintro ⟨#HC, HO, H0, A0, H1, A1, H2, A2, H3, A3⟩ Hk
  iapply (wp_drain X W K c (i := 0) (n := 20) (by decide +kernel)) $$ [HO H0 A0]
  · isplitr; · iexact HC
    isplitl [HO]; · iexact HO
    isplitl [H0] <;> iassumption
  iintro ⟨HO, H0⟩
  iapply (wp_drain X W K c (i := 1) (n := 21) (by decide +kernel)) $$ [HO H1 A1]
  · isplitr; · iexact HC
    isplitl [HO]; · iexact HO
    isplitl [H1] <;> iassumption
  iintro ⟨HO, H1⟩
  iapply (wp_drain X W K c (i := 2) (n := 16) (by decide +kernel)) $$ [HO H2 A2]
  · isplitr; · iexact HC
    isplitl [HO]; · iexact HO
    isplitl [H2] <;> iassumption
  iintro ⟨HO, H2⟩
  iapply (wp_drain X W K c (i := 3) (n := 22) (by decide +kernel)) $$ [HO H3 A3]
  · isplitr; · iexact HC
    isplitl [HO]; · iexact HO
    isplitl [H3] <;> iassumption
  iintro ⟨HO, H3⟩
  rw [wp_ret]; imodintro
  iapply Hk
  isplitl [HO]; · iexact HO
  isplitl [H0]; · iexact H0
  isplitl [H1]; · iexact H1
  isplitl [H2] <;> iassumption

end Cert.Run

end
-- ==== Proof.Enter.lean ====
/-
The entry barrier, and the whole body from what a device starts with to what it ends with.
-/
module

public import proofs.«01_k».proof.Proof.Body

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x128 .f32) (W : Dev nD → Vec F S128x1024 .f32) (K : Dev nD × CK → ℕ) (c : Dev nD)

/-! ## Lists of the slots -/

omit [FloatOps F] in
theorem axes3 (Φ : Fin 3 → sProp 𝕄) : bigSep Finset.univ Φ = iprop(Φ 0 ∗ Φ 1 ∗ Φ 2) := by
  rw [show (Finset.univ : Finset (Fin 3)) = {0, 1, 2} by decide, bigSep_insert (by decide), bigSep_insert (by decide), bigSep_singleton]; rfl
omit [FloatOps F] in
theorem slots7 (Φ : Fin 7 → sProp 𝕄) : bigSep Finset.univ Φ = iprop(Φ 0 ∗ Φ 1 ∗ Φ 2 ∗ Φ 3 ∗ Φ 4 ∗ Φ 5 ∗ Φ 6) := by
  rw [show (Finset.univ : Finset (Fin 7)) = {0, 1, 2, 3, 4, 5, 6} by decide]
  iterate 6 rw [bigSep_insert (by decide)]
  rw [bigSep_singleton]; rfl
omit [FloatOps F] in
theorem slots12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  iterate 11 rw [bigSep_insert (by decide)]
  rw [bigSep_singleton]; rfl

/-! ## The entry barrier -/

theorem slA_lt : ∀ c s, slA c s < 3 := by decide +kernel

omit [FloatOps F] in
/-- A device's receive slots are those that it hands to its neighbours, each to the one that fills it, and the rest. -/
theorem give : (bigSep Finset.univ fun s => (anyR c s : sProp 𝕄))
    ⊢ iprop((bigSep Finset.univ fun a : Fin 3 => barPay (nbr c a.val) a) ∗ bigSep Finset.univ fun s => if used c s then iprop(emp) else anyR c s) := by
  have h1 : (bigSep Finset.univ fun a : Fin 3 => (barPay (nbr c a.val) a : sProp 𝕄))
      = bigSep Finset.univ fun s => if used c s then anyR c s else iprop(emp) := by
    have (a : Fin 3) : (barPay (nbr c a.val) a : sProp 𝕄)
        = bigSep Finset.univ fun s => if used c s ∧ slA c s = a.val then anyR c s else iprop(emp) := by
      unfold barPay; rw [nbr_nbr]
    rw [bigSep_congr fun a _ => this a, bigSep_univ_comm]
    refine bigSep_congr fun s _ => ?_
    refine (bigSep_filter Finset.univ (fun a : Fin 3 => used c s ∧ slA c s = a.val) fun _ => anyR c s).symm.trans ?_
    by_cases h : used c s
    · rw [if_pos h, show (Finset.univ.filter fun a : Fin 3 => used c s ∧ slA c s = a.val) = {⟨slA c s, slA_lt c s⟩} from
        Finset.ext fun a => by simp only [Finset.mem_filter, Finset.mem_univ, true_and, Finset.mem_singleton, Fin.ext_iff]; exact ⟨fun h' => h'.2.symm, fun h' => ⟨h, h'.symm⟩⟩, bigSep_singleton]
    · rw [if_neg h, Finset.filter_false_of_mem fun a _ h' => h h'.1, bigSep_empty]; rfl
  rw [h1, ← bigSep_sep']
  refine bigSep_mono fun s _ => ?_
  show BIBase.Entails (PROP := sProp 𝕄) _ _
  split
  · iintro H; isplitl [H]; · iexact H
    iempintro
  · iintro H; isplitr; · iempintro
    iexact H

/-- The slot of its neighbour that each send is for, by the axis along which it goes. -/
def aim (c : Dev nD) : Fin 7 ↪ Fin 3 × Fin 12 where
  toFun i := (⟨axis c (i.val + 1), axis_lt c i⟩, dsl c i)
  inj' := by revert c; decide +kernel

theorem aim_all : ∀ c, (Finset.univ.filter fun p : Fin 3 × Fin 12 => used (nbr c p.1.val) p.2 ∧ slA (nbr c p.1.val) p.2 = p.1.val) = Finset.univ.map (aim c) := by
  decide +kernel

omit [FloatOps F] in
/-- What its neighbours hand to a device is the slots that it sends to. -/
theorem take : (bigSep Finset.univ fun a => (barPay c a : sProp 𝕄)) ⊢ bigSep Finset.univ fun i => anyR (dst c i) (dsl c i) := by
  have h : (bigSep Finset.univ fun a => (barPay c a : sProp 𝕄)) = bigSep Finset.univ fun i => anyR (dst c i) (dsl c i) := by
    unfold barPay
    rw [← bigSep_univ_prod fun p : Fin 3 × Fin 12 => (if used (nbr c p.1.val) p.2 ∧ slA (nbr c p.1.val) p.2 = p.1.val then anyR (nbr c p.1.val) p.2 else iprop(emp) : sProp 𝕄)]
    refine (bigSep_filter Finset.univ (fun p : Fin 3 × Fin 12 => used (nbr c p.1.val) p.2 ∧ slA (nbr c p.1.val) p.2 = p.1.val) fun p => anyR (nbr c p.1.val) p.2).symm.trans ?_
    rw [aim_all, bigSep_map]; rfl
  rw [h]

/-- The cells, credits and duties that a device starts with. -/
def Start : sProp 𝕄 :=
  iprop(atPos ER (barCell c) 0 ∅ 0 ∗ cred (tallyAt (barCell c) () 3)
    ∗ (bigSep Finset.univ fun a : Fin 3 => dutyTok ER (barCell (nbr c a.val)) 0 a)
    ∗ (bigSep Finset.univ fun i : Fin 7 => iprop(atPos ER (sendCell c i) 0 ∅ 0 ∗ dutyTok ER (sendCell c i) 0 0 ∗ dutyTok ER (recvCell (dst c i) (dsl c i)) 0 0))
    ∗ bigSep Finset.univ fun s : Fin 12 => iprop(atPos ER (recvCell c s) 0 ∅ 0 ∗ if used c s then cred (tallyAt (recvCell c s) () N) else iprop(emp)))

omit [FloatOps F] in
theorem gather_send : iprop((bigSep Finset.univ fun i : Fin 7 => iprop(atPos ER (sendCell c i) 0 ∅ 0 ∗ dutyTok ER (sendCell c i) 0 0 ∗ dutyTok ER (recvCell (dst c i) (dsl c i)) 0 0))
      ∗ (bigSep Finset.univ fun i => anyS c i) ∗ bigSep Finset.univ fun i => anyR (dst c i) (dsl c i))
    ⊢ bigSep Finset.univ fun i : Fin 7 => (iprop(atPos ER (sendCell c i) 0 ∅ 0 ∗ Fr c i) : sProp 𝕄) := by
  rw [← bigSep_sep', ← bigSep_sep']
  refine bigSep_mono fun i _ => ?_
  show BIBase.Entails (PROP := sProp 𝕄) _ _
  unfold Fr Tok
  iintro ⟨⟨Hat, Ht, Ht'⟩, HS, HR⟩
  isplitl [Hat]; · iexact Hat
  isplitl [HS]; · iexact HS
  isplitl [HR]; · iexact HR
  isplitl [Ht] <;> iassumption

omit [FloatOps F] in
theorem gather_recv : iprop((bigSep Finset.univ fun s : Fin 12 => iprop(atPos ER (recvCell c s) 0 ∅ 0 ∗ if used c s then cred (tallyAt (recvCell c s) () N) else iprop(emp)))
      ∗ bigSep Finset.univ fun s => if used c s then iprop(emp) else anyR c s)
    ⊢ bigSep Finset.univ fun s => (RP c s : sProp 𝕄) := by
  rw [← bigSep_sep']
  refine bigSep_mono fun s _ => ?_
  show BIBase.Entails (PROP := sProp 𝕄) _ _
  unfold RP
  by_cases h : used c s
  · rw [if_pos h, if_pos h, if_pos h]
    iintro ⟨H, -⟩; iexact H
  · rw [if_neg h, if_neg h, if_neg h]
    iintro ⟨⟨H, -⟩, HR⟩; isplitl [H] <;> iassumption

/-- The three signals and the wait: a device hands its receive slots out and gets those that it sends to. -/
theorem wp_enter (V : Waits sig Unit) {d₀ d₁ d₂ : Dev nD} (h₀ : d₀ = nbr c 0) (h₁ : d₁ = nbr c 1) (h₂ : d₂ = nbr c 2)
    {α : Type} {k : Prog (TpuEff nD τ sig (Elt F) Λ₀ .tc) α} {Q : α → sProp 𝕄} :
    iprop(Cx X W K ∗ Start c ∗ (bigSep Finset.univ fun i => anyS c i) ∗ (bigSep Finset.univ fun s => anyR c s) ∗ owes (c : Thread nD τ) (O₀ c) V)
      ⊢ iprop(((Ow c 1 ∗ atPos ER (barCell c) 1 ∅ 0 ∗ (bigSep Finset.univ fun i : Fin 7 => iprop(atPos ER (sendCell c i) 0 ∅ 0 ∗ Fr c i))
          ∗ bigSep Finset.univ fun s => RP c s) -∗ wp frame (wpE (defs₀ (F := F)) 𝒱₀ (c : Thread nD τ) none) Set.univ (k) Q)
        -∗ wp frame (wpE (defs₀ (F := F)) 𝒱₀ (c : Thread nD τ) none) Set.univ (semSignalWord d₀ barS 1#32 >>= fun _ => semSignalWord d₁ barS 1#32 >>= fun _ =>
                  semSignalWord d₂ barS 1#32 >>= fun _ => semWaitWord barS 3#32 >>= fun _ => k) Q) := by
  subst h₀; subst h₁; subst h₂
  simp only [semSignalWord, semWaitWord, Prog.lift, Prog.bind_op, Prog.bind_ret, Prog.pure_eq_ret]
  unfold Cx Start
  rw [axes3]
  iintro ⟨⟨#HR, #Hlev⟩, ⟨HatB, HcB, ⟨T0, T1, T2⟩, HS, HV⟩, HsS, HsR, HO⟩ Hk
  ihave HB := (give c) $$ HsR
  rw [axes3]
  icases HB with ⟨⟨B0, B1, B2⟩, HsR⟩
  unfold O₀
  iapply (Rounds.wp_signal 𝒱₀ ER (rd X W) (c : Thread nD τ) none (dst := (nbr c 0 : Thread nD τ)) (κ := K (nbr c 0, none)) (d := (0 : Fin 3))
      (by rw [duties_bar]; exact Finset.mem_univ _) ((amount_bar X W (nbr c 0) 0).trans (by decide)) () (O₁ c) rfl) $$ [HO T0 B0]
  · isplitr; · iapply (inv_of X W K (nbr c 0) none); iexact HR
    isplitl [HO]; · iexact HO
    isplitl [T0]; · iexact T0
    isplitl [B0]; · rw [payload_bar]; iexact B0
    iapply (reached_of X W K (nbr c 0) none); iexact HR
  iintro HO
  unfold O₁
  iapply (Rounds.wp_signal 𝒱₀ ER (rd X W) (c : Thread nD τ) none (dst := (nbr c 1 : Thread nD τ)) (κ := K (nbr c 1, none)) (d := (1 : Fin 3))
      (by rw [duties_bar]; exact Finset.mem_univ _) ((amount_bar X W (nbr c 1) 1).trans (by decide)) () (O₂ c) rfl) $$ [HO T1 B1]
  · isplitr; · iapply (inv_of X W K (nbr c 1) none); iexact HR
    isplitl [HO]; · iexact HO
    isplitl [T1]; · iexact T1
    isplitl [B1]; · rw [payload_bar]; iexact B1
    iapply (reached_of X W K (nbr c 1) none); iexact HR
  iintro HO
  unfold O₂
  iapply (Rounds.wp_signal 𝒱₀ ER (rd X W) (c : Thread nD τ) none (dst := (nbr c 2 : Thread nD τ)) (κ := K (nbr c 2, none)) (d := (2 : Fin 3))
      (by rw [duties_bar]; exact Finset.mem_univ _) ((amount_bar X W (nbr c 2) 2).trans (by decide)) () (Owe c 1) rfl) $$ [HO T2 B2]
  · isplitr; · iapply (inv_of X W K (nbr c 2) none); iexact HR
    isplitl [HO]; · iexact HO
    isplitl [T2]; · iexact T2
    isplitl [B2]; · rw [payload_bar]; iexact B2
    iapply (reached_of X W K (nbr c 2) none); iexact HR
  iintro HO
  iapply (Rounds.wp_wait_rest_token 𝒱₀ ER (rd X W) (c : Thread nD τ) none (κ := K (c, none))
      (wpE_semWait_eq 𝒱₀ (c : Thread nD τ) none Set.univ) (Set.mem_univ _) () (O := Owe c 1) (W := V) (R := 0) (m := 0) (T := ∅)
      (by rw [expect_bar]; decide)) $$ [HcB HO HatB]
  · isplitr; · iapply (inv_of X W K c none); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar X W c)) $$ Hpay
  ihave Hd := (take c) $$ Hp
  iapply Hk
  isplitl [HO]; · unfold Ow; iexists _; iexact HO
  isplitl [HatB]; · iexact HatB
  isplitl [HS HsS Hd]
  · iapply (gather_send (F := F) c)
    isplitl [HS]; · iexact HS
    isplitl [HsS] <;> iassumption
  · iapply (gather_recv (F := F) c)
    isplitl [HV] <;> iassumption

/-! ## The body -/

variable {h0 : xB.IsWhole} {h1 : wB.IsWhole} {h2 : oB.IsWhole} {h3 : sB.IsWhole} {h4 : rB.IsWhole}

/-- The barrier, and the product for the neighbour at offset 7. -/
theorem part12 {v261 v288 v313 v316 v318 v319 v321 u w : BitVec 32} {V : Waits sig Unit} {Q : (Σ' (_ : BitVec 32), FVec F S128x1024 .bf16) → sProp 𝕄} :
    iprop(Cx X W K ∗ Start c ∗ (bigSep Finset.univ fun i => anyS c i) ∗ (bigSep Finset.univ fun s => anyR c s) ∗ owes (c : Thread nD τ) (O₀ c) V ∗ Hx X c ∗ Hw W c)
      ⊢ iprop((∀ v, (Ow c 1 ∗ atPos ER (barCell c) 1 ∅ 0 ∗ (bigSep Finset.univ fun i : Fin 7 => iprop(atPos ER (sendCell c i) 0 ∅ 0 ∗ Fr c i))
          ∗ (bigSep Finset.univ fun s => RP c s) ∗ Hx X c ∗ Hw W c) -∗ Q ⟨v, k0_pay4 (xrows (across c 7) (X c)) (W c)⟩)
        -∗ wp frame (wpE (defs₀ (F := F)) 𝒱₀ (c : Thread nD τ) none) Set.univ (k0_part12 xB h0 wB h1 oB h2 sB h3 rB h4 cc0_scratch2 cc0_scratch3 c v261 v288 v313 v316 v318 u v319 v321 w) Q) := by
  rw [k0_part12_eq_skeleton]; unfold k0_part12_skel
  simp only [Prog.lift, Prog.bind_op, Prog.bind_ret, Prog.pure_eq_ret]
  iintro ⟨#HC, HS, HsS, HsR, HO, Hx, Hw⟩ Hk
  iapply (wp_enter X W K c V (Fin.ext (dev1 c)) (Fin.ext (dev2 c)) (Fin.ext (dev3 c))) $$ [HS HsS HsR HO]
  · isplitr; · iexact HC
    isplitl [HS]; · iexact HS
    isplitl [HsS]; · iexact HsS
    isplitl [HsR] <;> iassumption
  iintro ⟨HO, HatB, HS, HR⟩
  iapply (wp_loadX X c (across c 7) _ (off1 c 0)) $$ Hx; iintro Hx
  iapply (wp_loadW W c) $$ Hw; iintro Hw
  rw [wp_ret]; imodintro
  iapply Hk
  isplitl [HO]; · iexact HO
  isplitl [HatB]; · iexact HatB
  isplitl [HS]; · iexact HS
  isplitl [HR]; · iexact HR
  isplitl [Hx] <;> iassumption

section Places
variable (F) (h0) (h1) (h2) (h3) (h4)

/-- The parts that only compute places. -/
theorem ret5 (a b d e f g h) : ∃ r, k0_part5 (F := F) xB h0 wB h1 oB h2 sB h3 rB h4 cc0_scratch2 cc0_scratch3 a b d e f g h = .ret r := ⟨_, rfl⟩
theorem ret6 (a b d e f g h) : ∃ r, k0_part6 (F := F) xB h0 wB h1 oB h2 sB h3 rB h4 cc0_scratch2 cc0_scratch3 a b d e f g h = .ret r := ⟨_, rfl⟩
theorem ret7 (a b d e f g h i j k) : ∃ r, k0_part7 (F := F) xB h0 wB h1 oB h2 sB h3 rB h4 cc0_scratch2 cc0_scratch3 a b d e f g h i j k = .ret r := ⟨_, rfl⟩
theorem ret8 (a b d e f g h) : ∃ r, k0_part8 (F := F) xB h0 wB h1 oB h2 sB h3 rB h4 cc0_scratch2 cc0_scratch3 a b d e f g h = .ret r := ⟨_, rfl⟩
theorem ret9 (a b d e f g h i j k) : ∃ r, k0_part9 (F := F) xB h0 wB h1 oB h2 sB h3 rB h4 cc0_scratch2 cc0_scratch3 a b d e f g h i j k = .ret r := ⟨_, rfl⟩
theorem ret10 (a b d e f g h) : ∃ r, k0_part10 (F := F) xB h0 wB h1 oB h2 sB h3 rB h4 cc0_scratch2 cc0_scratch3 a b d e f g h = .ret r := ⟨_, rfl⟩
theorem ret11 (a b d e f g h i) : ∃ r, k0_part11 (F := F) xB h0 wB h1 oB h2 sB h3 rB h4 cc0_scratch2 cc0_scratch3 a b d e f g h i = .ret r := ⟨_, rfl⟩
/-- The first of them also asks for the device. -/
theorem ret4 : ∃ r : Dev nD → _, (∀ c, (r c).1 = c) ∧ k0_part4 (F := F) xB h0 wB h1 oB h2 sB h3 rB h4 cc0_scratch2 cc0_scratch3 = .op .deviceId fun c => .ret (r c) :=
  ⟨fun c => _, fun _ => rfl, rfl⟩

end Places

/-- All cells at their ends, the slots with some contents. -/
def Done : sProp 𝕄 := iprop(atPos ER (barCell c) 1 ∅ 0 ∗ (bigSep Finset.univ fun i => SD c i) ∗ bigSep Finset.univ fun s => RD X W c s)

theorem RD_of_Rs {s : Fin 12} {i : Fin 7} {n : ℕ} (h : sendAt c i < n) : Rs X W c s i n ⊢ RD X W c s := by unfold Rs; rw [if_pos h]

/-- The whole body: what a device starts with brings its part of the result. -/
theorem sound (V : Waits sig Unit) {Q : PUnit → sProp 𝕄} :
    iprop(Cx X W K ∗ Start c ∗ (bigSep Finset.univ fun i => anyS c i) ∗ (bigSep Finset.univ fun s => anyR c s) ∗ owes (c : Thread nD τ) (O₀ c) V ∗ Hx X c ∗ Hw W c ∗ Ho c)
      ⊢ iprop(((Done X W c ∗ (∃ V, owes (c : Thread nD τ) 0 V) ∗ Hx X c ∗ Hw W c ∗ Hr X W c) -∗ Q ⟨⟩)
        -∗ wp frame (wpE (defs₀ (F := F)) 𝒱₀ (c : Thread nD τ) none) Set.univ (cc0_body xB h0 wB h1 oB h2 sB h3 rB h4 cc0_scratch2 cc0_scratch3) Q) := by
  rw [cc0_body_eq_skeleton]; unfold cc0_body_skel
  obtain ⟨r4, hr, e4⟩ := ret4 F h0 h1 h2 h3 h4
  rw [e4]
  simp only [Prog.lift, Prog.bind_op, Prog.bind_ret, wp_deviceId]
  have hc : c = (r4 c).1 := (hr c).symm
  generalize r4 c = x at hc ⊢
  obtain ⟨d0, v2, v19, v29, c2_i32, v30, v35, v37, v38⟩ := x
  dsimp only at hc ⊢
  subst hc
  obtain ⟨⟨v57, v74, v75, v76, v77, v79⟩, e5⟩ := ret5 F h0 h1 h2 h3 h4 v19 v29 c2_i32 v30 v35 v37 v38
  obtain ⟨⟨v99, v101, v102, v103, v104, v106, v107, v118, v120⟩, e6⟩ := ret6 F h0 h1 h2 h3 h4 v19 v57 v74 v75 v76 v77 v79
  obtain ⟨⟨v126, v128, v153, v155, v156, v157, v158, v160⟩, e7⟩ := ret7 F h0 h1 h2 h3 h4 v19 v57 v74 v102 v103 v104 v106 v107 v118 v120
  obtain ⟨⟨v180, v182, v183, v184, v185, v187, v188, v199, v201⟩, e8⟩ := ret8 F h0 h1 h2 h3 h4 v19 v57 v74 v156 v157 v158 v160
  obtain ⟨⟨v207, v209, v234, v236, v237, v238, v239, v241⟩, e9⟩ := ret9 F h0 h1 h2 h3 h4 v19 v57 v74 v183 v184 v185 v187 v188 v199 v201
  obtain ⟨⟨v261, v263, v266, v268, v269, v280, v282⟩, e10⟩ := ret10 F h0 h1 h2 h3 h4 v19 v57 v74 v237 v238 v239 v241
  obtain ⟨⟨v288, v313, v316, v318, c2_i32_149, v319, v321, c0_i32_151⟩, e11⟩ := ret11 F h0 h1 h2 h3 h4 v19 v57 v74 v266 v268 v269 v280 v282
  simp only [e5, e6, e7, e8, e9, e10, e11, Prog.bind_ret, Prog.bind_op, Prog.pure_eq_ret, wp_bind]
  unfold Done
  rw [slots7 fun i => SD c i, slots12 fun s => RD X W c s]
  iintro ⟨#HC, HS, HsS, HsR, HO, Hx, Hw, Ho⟩ Hk
  iapply (part12 X W K c (V := V)) $$ [HS HsS HsR HO Hx Hw]
  · isplitr; · iexact HC
    isplitl [HS]; · iexact HS
    isplitl [HsS]; · iexact HsS
    isplitl [HsR]; · iexact HsR
    isplitl [HO]; · iexact HO
    isplitl [Hx] <;> iassumption
  iintro %v338 ⟨HO, HatB, HS, HR, Hx, Hw⟩
  ihave HS := (Entails.of_eq (slots7 _)) $$ HS
  icases HS with ⟨⟨A0, H0⟩, ⟨A1, H1⟩, ⟨A2, H2⟩, ⟨A3, H3⟩, ⟨A4, H4⟩, ⟨A5, H5⟩, A6, H6⟩
  ihave HR := (Entails.of_eq (slots12 _)) $$ HR
  icases HR with ⟨R0, R1, R2, R3, R4, R5, R6, R7, R8, R9, R10, R11⟩
  ihave R3 := (Rs_intro X W c (s := 3) (i := 0) (n := 11) (by revert c; decide +kernel)) $$ R3
  ihave R4 := (Rs_intro X W c (s := 4) (i := 0) (n := 14) (by revert c; decide +kernel)) $$ R4
  ihave R5 := (Rs_intro X W c (s := 5) (i := 1) (n := 12) (by revert c; decide +kernel)) $$ R5
  ihave R6 := (Rs_intro X W c (s := 6) (i := 1) (n := 15) (by revert c; decide +kernel)) $$ R6
  ihave R9 := (Rs_intro X W c (s := 9) (i := 2) (n := 6) (by revert c; decide +kernel)) $$ R9
  ihave R7 := (Rs_intro X W c (s := 7) (i := 3) (n := 13) (by revert c; decide +kernel)) $$ R7
  ihave R8 := (Rs_intro X W c (s := 8) (i := 3) (n := 17) (by revert c; decide +kernel)) $$ R8
  ihave R10 := (Rs_intro X W c (s := 10) (i := 4) (n := 8) (by revert c; decide +kernel)) $$ R10
  ihave R11 := (Rs_intro X W c (s := 11) (i := 5) (n := 10) (by revert c; decide +kernel)) $$ R11
  iapply (part13 X W K c) $$ [Hx Hw HO H6 H2]
  · isplitr; · iexact HC
    isplitl [Hx]; · iexact Hx
    isplitl [Hw]; · iexact Hw
    isplitl [HO]; · iexact HO
    isplitl [H6] <;> iassumption
  iintro ⟨Hx, Hw, HO, H6, H2⟩
  iapply (part14 X W K c) $$ [Hx Hw HO H4 H5]
  · isplitr; · iexact HC
    isplitl [Hx]; · iexact Hx
    isplitl [Hw]; · iexact Hw
    isplitl [HO]; · iexact HO
    isplitl [H4] <;> iassumption
  iintro ⟨Hx, Hw, HO, H4, H5⟩
  iapply (part15 X W K c) $$ [Hx Hw HO H0 H1]
  · isplitr; · iexact HC
    isplitl [Hx]; · iexact Hx
    isplitl [Hw]; · iexact Hw
    isplitl [HO]; · iexact HO
    isplitl [H0] <;> iassumption
  iintro ⟨Hx, Hw, HO, H0, H1⟩
  iapply (part16 X W K c) $$ [Hx Hw HO H3 H0 H1 H2 H4 R3 R5 R9 R7 R10]
  · isplitr; · iexact HC
    isplitl [Hx]; · iexact Hx
    isplitl [Hw]; · iexact Hw
    isplitl [HO]; · iexact HO
    isplitl [H3]; · iexact H3
    isplitl [H0]; · iexact H0
    isplitl [H1]; · iexact H1
    isplitl [H2]; · iexact H2
    isplitl [H4]; · iexact H4
    isplitl [R3]; · iexact R3
    isplitl [R5]; · iexact R5
    isplitl [R9]; · iexact R9
    isplitl [R7] <;> iassumption
  iintro ⟨Hx, Hw, HO, H3, H0, H1, H2, H4, R3, R5, R9, R7, R10⟩
  iapply (part17 X W K c) $$ [HO H0 H1 H3 H5 R11 R3 R4 R5 R6 R7 R8 R0 R1]
  · isplitr; · iexact HC
    isplitl [HO]; · iexact HO
    isplitl [H0]; · iexact H0
    isplitl [H1]; · iexact H1
    isplitl [H3]; · iexact H3
    isplitl [H5]; · iexact H5
    isplitl [R11]; · iexact R11
    isplitl [R3]; · iexact R3
    isplitl [R4]; · iexact R4
    isplitl [R5]; · iexact R5
    isplitl [R6]; · iexact R6
    isplitl [R7]; · iexact R7
    isplitl [R8]; · iexact R8
    isplitl [R0] <;> iassumption
  iintro ⟨HO, H0, H1, H3, H5, R11, R3, R4, R5, R6, R7, R8, R0, R1⟩
  iapply (part18 X W K c) $$ [HO Ho R0 R1 R2]
  · isplitr; · iexact HC
    isplitl [HO]; · iexact HO
    isplitl [Ho]; · iexact Ho
    isplitl [R0]; · iexact R0
    isplitl [R1] <;> iassumption
  iintro ⟨HO, Ho, R0, R1, R2⟩
  iapply (part19 X W K c) $$ [HO H0 A0 H1 A1 H2 A2 H3 A3]
  · isplitr; · iexact HC
    isplitl [HO]; · iexact HO
    isplitl [H0]; · iexact H0
    isplitl [A0]; · iexact A0
    isplitl [H1]; · iexact H1
    isplitl [A1]; · iexact A1
    isplitl [H2]; · iexact H2
    isplitl [A2]; · iexact A2
    isplitl [H3] <;> iassumption
  iintro ⟨HO, H0, H1, H2, H3⟩
  iapply (wp_drain X W K c (i := 4) (n := 18) (by decide +kernel)) $$ [HO H4 A4]
  · isplitr; · iexact HC
    isplitl [HO]; · iexact HO
    isplitl [H4] <;> iassumption
  iintro ⟨HO, H4⟩
  iapply (wp_drain X W K c (i := 5) (n := 19) (by decide +kernel)) $$ [HO H5 A5]
  · isplitr; · iexact HC
    isplitl [HO]; · iexact HO
    isplitl [H5] <;> iassumption
  iintro ⟨HO, H5⟩
  iapply (wp_drain X W K c (i := 6) (n := 4) (by decide +kernel)) $$ [HO H6 A6]
  · isplitr; · iexact HC
    isplitl [HO]; · iexact HO
    isplitl [H6] <;> iassumption
  iintro ⟨HO, H6⟩
  ihave R3 := (RD_of_Rs X W c (s := 3) (i := 0) (n := 20) (by revert c; decide +kernel)) $$ R3
  ihave R4 := (RD_of_Rs X W c (s := 4) (i := 0) (n := 20) (by revert c; decide +kernel)) $$ R4
  ihave R5 := (RD_of_Rs X W c (s := 5) (i := 1) (n := 21) (by revert c; decide +kernel)) $$ R5
  ihave R6 := (RD_of_Rs X W c (s := 6) (i := 1) (n := 21) (by revert c; decide +kernel)) $$ R6
  ihave R9 := (RD_of_Rs X W c (s := 9) (i := 2) (n := 16) (by revert c; decide +kernel)) $$ R9
  ihave R7 := (RD_of_Rs X W c (s := 7) (i := 3) (n := 22) (by revert c; decide +kernel)) $$ R7
  ihave R8 := (RD_of_Rs X W c (s := 8) (i := 3) (n := 22) (by revert c; decide +kernel)) $$ R8
  ihave R10 := (RD_of_Rs X W c (s := 10) (i := 4) (n := 18) (by revert c; decide +kernel)) $$ R10
  ihave R11 := (RD_of_Rs X W c (s := 11) (i := 5) (n := 19) (by revert c; decide +kernel)) $$ R11
  rw [wp_ret]; imodintro
  iapply Hk
  isplitl [HatB H0 H1 H2 H3 H4 H5 H6 R0 R1 R2 R3 R4 R5 R6 R7 R8 R9 R10 R11]
  · isplitl [HatB]; · iexact HatB
    isplitl [H0 H1 H2 H3 H4 H5 H6]
    · isplitl [H0]; · iexact H0
      isplitl [H1]; · iexact H1
      isplitl [H2]; · iexact H2
      isplitl [H3]; · iexact H3
      isplitl [H4]; · iexact H4
      isplitl [H5] <;> iassumption
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10] <;> iassumption
  isplitl [HO]
  · unfold Ow; rw [Owe_end]; iexact HO
  isplitl [Hx]; · iexact Hx
  isplitl [Hw] <;> iassumption

end Cert.Run

end
-- ==== Proof.Setup.lean ====
/-
What the launch sets up: the scratch buffers cut into slots, the cells and the tokens of the schedule, and the credit
of what each device owes; and what the end gives back.
-/
module

public import proofs.«01_k».proof.Proof.Enter
public import Idealize.ShloMosaic.Lib.Ring

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (X : Dev nD → Vec F S1024x128 .f32) (W : Dev nD → Vec F S128x1024 .f32) (K : Dev nD × CK → ℕ) (c : Dev nD)

/-! ## The scratch buffers as slots -/

theorem sets_disjoint {n : ℕ} {s : Shape} (r : Fin n → Rect s) {sp : Space} {e : EltTy} (v : View sig .tc sp s e)
    (h : ∀ i i' : Fin n, i ≠ i' → Disjoint (r i).set (r i').set) (i i' : Fin n) (hi : i ≠ i') : Disjoint (v.slice (r i)).set (v.slice (r i')).set := by
  rw [View.set_slice, View.set_slice]; exact (Finset.disjoint_map _).mpr (h i i' hi)

theorem mem_slot {s : Shape} {sp : Space} {e : EltTy} (v : View sig .tc sp s e) (r : Rect s) (x : s.Idx) (h : x ∈ r.set) : v.emb x ∈ (v.slice r).set := by
  rw [View.set_slice]; exact Finset.mem_map_of_mem _ h

theorem rS_disjoint (i i' : Fin 7) (h : i ≠ i') : Disjoint (rS i).set (rS i').set :=
  Rect.unit_disjoint 0 (by
    have : i.val ≠ i'.val := fun e => h (Fin.ext e)
    show i.val + 1 ≤ i'.val ∨ i'.val + 1 ≤ i.val; omega)
theorem rR_disjoint (s s' : Fin 12) (h : s ≠ s') : Disjoint (rR s).set (rR s').set :=
  Rect.unit_disjoint 0 (by
    have : s.val ≠ s'.val := fun e => h (Fin.ext e)
    show s.val + 1 ≤ s'.val ∨ s'.val + 1 ≤ s.val; omega)

theorem rS_cover : Finset.univ.biUnion (β := sB.view.ty.Idx) (fun i : Fin 7 => (sM i).view.set) = Finset.univ := by
  refine Finset.eq_univ_iff_forall.mpr fun x => ?_
  have hx : ((x : S7x128x1024.Idx) 0).val < 7 := ((x : S7x128x1024.Idx) 0).isLt
  refine Finset.mem_biUnion.mpr ⟨⟨((x : S7x128x1024.Idx) 0).val, hx⟩, Finset.mem_univ _, ?_⟩
  refine mem_slot sB.view (rS _) x ?_
  refine Rect.mem_set_unit.mpr fun a => ?_
  have h1 : ((x : S7x128x1024.Idx) 1).val < 128 := ((x : S7x128x1024.Idx) 1).isLt
  have h2 : ((x : S7x128x1024.Idx) 2).val < 1024 := ((x : S7x128x1024.Idx) 2).isLt
  fin_cases a
  · exact ⟨le_refl _, Nat.lt_succ_self _⟩
  · exact ⟨Nat.zero_le _, (Nat.zero_add 128).symm ▸ h1⟩
  · exact ⟨Nat.zero_le _, (Nat.zero_add 1024).symm ▸ h2⟩
theorem rR_cover : Finset.univ.biUnion (β := rB.view.ty.Idx) (fun s : Fin 12 => (rM s).view.set) = Finset.univ := by
  refine Finset.eq_univ_iff_forall.mpr fun x => ?_
  have hx : ((x : S12x128x1024.Idx) 0).val < 12 := ((x : S12x128x1024.Idx) 0).isLt
  refine Finset.mem_biUnion.mpr ⟨⟨((x : S12x128x1024.Idx) 0).val, hx⟩, Finset.mem_univ _, ?_⟩
  refine mem_slot rB.view (rR _) x ?_
  refine Rect.mem_set_unit.mpr fun a => ?_
  have h1 : ((x : S12x128x1024.Idx) 1).val < 128 := ((x : S12x128x1024.Idx) 1).isLt
  have h2 : ((x : S12x128x1024.Idx) 2).val < 1024 := ((x : S12x128x1024.Idx) 2).isLt
  fin_cases a
  · exact ⟨le_refl _, Nat.lt_succ_self _⟩
  · exact ⟨Nat.zero_le _, (Nat.zero_add 128).symm ▸ h1⟩
  · exact ⟨Nat.zero_le _, (Nat.zero_add 1024).symm ▸ h2⟩

theorem sM_disjoint (i i' : Fin 7) (h : i ≠ i') : Disjoint (sM i).view.set (sM i').view.set :=
  sets_disjoint rS sB.view rS_disjoint i i' h
theorem rM_disjoint (s s' : Fin 12) (h : s ≠ s') : Disjoint (rM s).view.set (rM s').view.set :=
  sets_disjoint rR rB.view rR_disjoint s s' h

omit [FloatOps F] in
theorem anyS_iff (i : Fin 7) : (anyS c i : sProp 𝕄) ⊣⊢ iprop(∃ f : Buf (Elt F) ((c : Thread nD τ).loc cc0_scratch0), ((c : Thread nD τ).loc cc0_scratch0) ↦[(sM i).view.set]{fullShare} f) := by
  unfold anyS owns
  constructor
  · iintro ⟨%Y, %g, -, H⟩; iexists g; iexact H
  · iintro ⟨%g, H⟩; iexists _; iexists g; isplitr; · (ipureintro; rfl)
    iexact H
omit [FloatOps F] in
theorem anyR_iff (s : Fin 12) : (anyR c s : sProp 𝕄) ⊣⊢ iprop(∃ f : Buf (Elt F) ((c : Thread nD τ).loc cc0_scratch1), ((c : Thread nD τ).loc cc0_scratch1) ↦[(rM s).view.set]{fullShare} f) := by
  unfold anyR owns
  constructor
  · iintro ⟨%Y, %g, -, H⟩; iexists g; iexact H
  · iintro ⟨%g, H⟩; iexists _; iexists g; isplitr; · (ipureintro; rfl)
    iexact H

omit [FloatOps F] in
/-- The send buffer is its seven slots, -/
theorem split_send : iprop(∃ f : Buf (Elt F) ((c : Thread nD τ).loc cc0_scratch0), ((c : Thread nD τ).loc cc0_scratch0) ↦{fullShare} f)
    ⊢ bigSep Finset.univ fun i => (anyS c i : sProp 𝕄) := by
  iintro ⟨%f, H⟩
  iapply (show (((c : Thread nD τ).loc cc0_scratch0) ↦{fullShare} f) ⊢ bigSep Finset.univ fun i => (anyS c i : sProp 𝕄) from by
    rw [Ring.pointsTo_blocks (ℓ := (c : Thread nD τ).loc cc0_scratch0) (fun i => (sM i).view.set) sM_disjoint rS_cover f]
    refine bigSep_mono fun i _ => ?_
    refine BI.Entails.trans ?_ (anyS_iff c i).2
    show BIBase.Entails (PROP := sProp 𝕄) _ _
    iintro H; iexists f; iexact H )
  iexact H
omit [FloatOps F] in
theorem join_send : (bigSep Finset.univ fun i => (anyS c i : sProp 𝕄))
    ⊢ iprop(∃ f : Buf (Elt F) ((c : Thread nD τ).loc cc0_scratch0), ((c : Thread nD τ).loc cc0_scratch0) ↦{fullShare} f) := by
  have hs : (bigSep Finset.univ fun i => (anyS c i : sProp 𝕄)) = iprop(anyS c 0 ∗ bigSep (Finset.univ.erase 0) fun i => anyS c i) := bigSep_univ_at _ 0
  have hj (f : Buf (Elt F) ((c : Thread nD τ).loc cc0_scratch0)) : iprop(anyS c 0 ∗ bigSep (Finset.univ.erase 0) fun i => anyS c i)
      ⊢ (iprop(∃ f : Buf (Elt F) ((c : Thread nD τ).loc cc0_scratch0), ((c : Thread nD τ).loc cc0_scratch0) ↦{fullShare} f) : sProp 𝕄) := by
    rw [← hs]
    exact (bigSep_mono fun i _ => (anyS_iff c i).1).trans
      (Ring.pointsTo_blocks_join_exists (ℓ := (c : Thread nD τ).loc cc0_scratch0) (fun i => (sM i).view.set) sM_disjoint rS_cover f)
  rw [hs]
  show BIBase.Entails (PROP := sProp 𝕄) _ _
  iintro ⟨H0, H⟩
  ihave H0 := (anyS_iff c 0).1 $$ H0
  icases H0 with ⟨%f, H0⟩
  iapply (hj f)
  isplitl [H0]
  · iapply (anyS_iff c 0).2; iexists f; iexact H0
  iexact H
omit [FloatOps F] in
/-- the receive buffer its twelve. -/
theorem split_recv : iprop(∃ f : Buf (Elt F) ((c : Thread nD τ).loc cc0_scratch1), ((c : Thread nD τ).loc cc0_scratch1) ↦{fullShare} f)
    ⊢ bigSep Finset.univ fun s => (anyR c s : sProp 𝕄) := by
  iintro ⟨%f, H⟩
  iapply (show (((c : Thread nD τ).loc cc0_scratch1) ↦{fullShare} f) ⊢ bigSep Finset.univ fun s => (anyR c s : sProp 𝕄) from by
    rw [Ring.pointsTo_blocks (ℓ := (c : Thread nD τ).loc cc0_scratch1) (fun s => (rM s).view.set) rM_disjoint rR_cover f]
    refine bigSep_mono fun s _ => ?_
    refine BI.Entails.trans ?_ (anyR_iff c s).2
    show BIBase.Entails (PROP := sProp 𝕄) _ _
    iintro H; iexists f; iexact H )
  iexact H
omit [FloatOps F] in
theorem join_recv : (bigSep Finset.univ fun s => (anyR c s : sProp 𝕄))
    ⊢ iprop(∃ f : Buf (Elt F) ((c : Thread nD τ).loc cc0_scratch1), ((c : Thread nD τ).loc cc0_scratch1) ↦{fullShare} f) := by
  have hs : (bigSep Finset.univ fun s => (anyR c s : sProp 𝕄)) = iprop(anyR c 0 ∗ bigSep (Finset.univ.erase 0) fun s => anyR c s) := bigSep_univ_at _ 0
  have hj (f : Buf (Elt F) ((c : Thread nD τ).loc cc0_scratch1)) : iprop(anyR c 0 ∗ bigSep (Finset.univ.erase 0) fun s => anyR c s)
      ⊢ (iprop(∃ f : Buf (Elt F) ((c : Thread nD τ).loc cc0_scratch1), ((c : Thread nD τ).loc cc0_scratch1) ↦{fullShare} f) : sProp 𝕄) := by
    rw [← hs]
    exact (bigSep_mono fun s _ => (anyR_iff c s).1).trans
      (Ring.pointsTo_blocks_join_exists (ℓ := (c : Thread nD τ).loc cc0_scratch1) (fun s => (rM s).view.set) rM_disjoint rR_cover f)
  rw [hs]
  show BIBase.Entails (PROP := sProp 𝕄) _ _
  iintro ⟨H0, H⟩
  ihave H0 := (anyR_iff c 0).1 $$ H0
  icases H0 with ⟨%f, H0⟩
  iapply (hj f)
  isplitl [H0]
  · iapply (anyR_iff c 0).2; iexists f; iexact H0
  iexact H

/-! ## The cells' states, invariants and tokens -/

omit [FloatOps F] in
/-- Over a device's cells: its barrier's, those of its send slots, those of its receive slots. -/
theorem cells_split (Φ : CK → sProp 𝕄) : bigSep Finset.univ Φ
    = iprop(Φ none ∗ (bigSep Finset.univ fun i : Fin 7 => Φ (some (.inl i))) ∗ bigSep Finset.univ fun s : Fin 12 => Φ (some (.inr s))) := by
  rw [bigSep_univ_at Φ none, show (Finset.univ.erase none : Finset CK) = Finset.univ.map Function.Embedding.some from by
    ext k; cases k <;> simp, bigSep_map, bigSep_univ_sum]
  rfl

def ringCells : Finset (GSem nD τ sig) := Finset.univ.map ⟨kcell, kcell_injective⟩

/-- The duties, by the device that pays them: its signals to its neighbours, the departures and the arrivals of its sends. -/
abbrev TK : Type := Fin 3 ⊕ Fin 7 ⊕ Fin 7
abbrev tokOf (ck : Dev nD × TK) : GSem nD τ sig × ℕ × Fin 3 := match ck.2 with
  | .inl a => (barCell (nbr ck.1 a.val), 0, a)
  | .inr (.inl i) => (sendCell ck.1 i, 0, 0)
  | .inr (.inr i) => (recvCell (dst ck.1 i) (dsl ck.1 i), 0, 0)

theorem cell_inj {c c' : Dev nD} {k k' : CK} (h : kcell (c, k) = kcell (c', k')) : c = c' ∧ k = k' := by
  have := kcell_injective h; exact ⟨congrArg Prod.fst this, congrArg Prod.snd this⟩

theorem tokOf_injective : Function.Injective (tokOf : Dev nD × TK → GSem nD τ sig × ℕ × Fin 3) := by
  rintro ⟨c, a | i | i⟩ ⟨c', a' | i' | i'⟩ h
  · have h1 : a = a' := congrArg (fun x : GSem nD τ sig × ℕ × Fin 3 => x.2.2) h
    have h2 := (cell_inj (k := none) (k' := none) (congrArg Prod.fst h)).1
    subst h1
    have h3 : nbr (nbr c a.val) a.val = nbr (nbr c' a.val) a.val := congrArg (fun d => nbr d a.val) h2
    rw [nbr_nbr, nbr_nbr] at h3
    rw [h3]
  · exact absurd (cell_inj (k := none) (k' := some (.inl i')) (congrArg Prod.fst h)).2 (by simp)
  · exact absurd (cell_inj (k := none) (k' := some (.inr (dsl c' i'))) (congrArg Prod.fst h)).2 (by simp)
  · exact absurd (cell_inj (k' := none) (k := some (.inl i)) (congrArg Prod.fst h)).2 (by simp)
  · obtain ⟨h1, h2⟩ := cell_inj (k := some (.inl i)) (k' := some (.inl i')) (congrArg Prod.fst h)
    subst h1; injection h2 with h2; injection h2 with h2; rw [h2]
  · exact absurd (cell_inj (k := some (.inl i)) (k' := some (.inr (dsl c' i'))) (congrArg Prod.fst h)).2 (by simp)
  · exact absurd (cell_inj (k' := none) (k := some (.inr (dsl c i))) (congrArg Prod.fst h)).2 (by simp)
  · exact absurd (cell_inj (k' := some (.inl i')) (k := some (.inr (dsl c i))) (congrArg Prod.fst h)).2 (by simp)
  · obtain ⟨h1, h2⟩ := cell_inj (k := some (.inr (dsl c i))) (k' := some (.inr (dsl c' i'))) (congrArg Prod.fst h)
    injection h2 with h2; injection h2 with h2
    obtain ⟨h3, h4⟩ := dst_dsl_inj h1 h2
    have h5 : c = c' := h3
    rw [h5, h4]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of the duties that device `c` pays. -/
def toks (c : Dev nD) : sProp 𝕄 :=
  iprop((bigSep Finset.univ fun a : Fin 3 => dutyTok ER (barCell (nbr c a.val)) 0 a)
    ∗ (bigSep Finset.univ fun i : Fin 7 => dutyTok ER (sendCell c i) 0 0)
    ∗ bigSep Finset.univ fun i : Fin 7 => dutyTok ER (recvCell (dst c i) (dsl c i)) 0 0)

/-- What the launch deals to device `c`, -/
def G (c : Dev nD) : sProp 𝕄 :=
  iprop((bigSep Finset.univ fun k : CK => roundState ER (rd X W) (kcell (c, k)) 0)
    ∗ (bigSep Finset.univ fun k : CK => iprop(atPos ER (kcell (c, k)) 0 ∅ 0 ∗ reached ER (kcell (c, k)) 0)) ∗ toks c)
/-- its positions and tokens, -/
def linear (c : Dev nD) : sProp 𝕄 := iprop((bigSep Finset.univ fun k : CK => atPos ER (kcell (c, k)) 0 ∅ 0) ∗ toks c)
/-- and what the opening of all cells makes of it. -/
def G' (c : Dev nD) : sProp 𝕄 := iprop(∃ K, records X W K ∗ linear c)

theorem fund_ring : BI.own (ER (initOf ringCells ringToks)) ⊢ (|==> bigSep Finset.univ (G X W) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (rd X W) ringCells ringToks) $$ HX with ⟨Hst, Hr, Hat, Htok⟩
  imodintro
  ihave Hst' := (Entails.of_eq (hX fun g => roundState ER (rd X W) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun s => semVal (recvCell c s) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, cells_split]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (rd X W) (kcell (c, k)) 0)
      ⊢ (|={Set.univ}=> bigSep Finset.univ fun k => iprop(∃ κ : ℕ, cellInv ER (rd X W) κ (kcell (c, k))) : sProp 𝕄) from by
        rw [← bigSep_sep']
        exact (bigSep_mono fun k _ => (Rounds.body_intro ER (rd X W) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd X W) κ (kcell (c, k))))
          ∗ (bigSep Finset.univ fun k => iprop(atPos ER (kcell (c, k)) 0 ∅ 0 ∗ reached ER (kcell (c, k)) 0)) ∗ toks c) : sProp 𝕄)
      ⊢ bigSep Finset.univ (G' X W) := by
  rw [bigSep_sep', bigSep_sep', ← bigSep_univ_prod (fun ck : Dev nD × CK => iprop(∃ κ : ℕ, cellInv ER (rd X W) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (rd X W) κ (kcell ck) : sProp 𝕄))) $$ HI
  icases HK with ⟨%K, #HI⟩
  iapply (bigSep_with (R := records X W K) (Φ := linear) fun c _ => show iprop(records X W K ∗ linear c) ⊢ G' X W c from by
    unfold G'; iintro H; iexists K; iexact H)
  isplitr
  · unfold records; isplitl; · iexact HI
    iexact HR
  · unfold linear
    rw [bigSep_sep']
    isplitl [Hat]; · iexact Hat
    iexact Htok

/-- All cells opened at once. -/
theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => core_alloc X W c).trans (bigSep_fupd _ _)).trans (BI.fupd_mono (regroup X W))

/-! ## The credit of what the devices owe -/

theorem tally_cell {g g' : GSem nD τ sig} (n : ℕ) : (tallyAt g () n : CellTallies nD τ sig Unit) g' () = if g' = g then n else 0 := by
  rw [tallyAt_apply]; exact if_congr ⟨fun h => h.1, fun h => ⟨h, rfl⟩⟩ rfl rfl

theorem bar_eq {a b : Dev nD} : barCell a = barCell b ↔ a = b := ⟨fun h => (cell_inj (k := none) (k' := none) h).1, fun h => h ▸ rfl⟩
theorem recv_eq {a b : Dev nD} {s t : Fin 12} : recvCell a s = recvCell b t ↔ a = b ∧ s = t :=
  ⟨fun h => by
    obtain ⟨h1, h2⟩ := cell_inj (k := some (.inr s)) (k' := some (.inr t)) h
    injection h2 with h2; injection h2 with h2; exact ⟨h1, h2⟩, fun h => by rw [h.1, h.2]⟩
theorem recv_ne_bar {a b : Dev nD} {s : Fin 12} : recvCell a s ≠ barCell b :=
  fun h => absurd (cell_inj (k := some (.inr s)) (k' := none) h).2 (by simp)

theorem Owe_apply (d : Dev nD) (g : GSem nD τ sig) : Owe d 1 g () = ∑ i : Fin 7, if g = recvCell (dst d i) (dsl d i) then N else 0 := by
  unfold Owe
  rw [Finset.sum_apply, Finsupp.finset_sum_apply]
  refine Finset.sum_congr rfl fun i _ => ?_
  rw [if_pos (sendAt_pos d i).1, tally_cell]

theorem O₀_apply (d : Dev nD) (g : GSem nD τ sig) : O₀ d g () = Owe d 1 g () + (if g = barCell (nbr d 2) then 1 else 0)
    + (if g = barCell (nbr d 1) then 1 else 0) + (if g = barCell (nbr d 0) then 1 else 0) := by
  unfold O₀ O₁ O₂
  rw [Pi.add_apply, Finsupp.add_apply, Pi.add_apply, Finsupp.add_apply, Pi.add_apply, Finsupp.add_apply, tally_cell, tally_cell, tally_cell]

theorem O₀_recv (d c : Dev nD) (s : Fin 12) : O₀ d (recvCell c s) () = ∑ i : Fin 7, if recvCell c s = recvCell (dst d i) (dsl d i) then N else 0 := by
  rw [O₀_apply, if_neg recv_ne_bar, if_neg recv_ne_bar, if_neg recv_ne_bar, Owe_apply, Nat.add_zero]

theorem sum_nbr (c : Dev nD) (a : Fin 3) : (∑ d : Dev nD, if barCell c = barCell (nbr d a.val) then 1 else 0) = 1 := by
  rw [Finset.sum_eq_single (nbr c a.val) (fun d _ h => if_neg fun h' => h (by rw [bar_eq.mp h', nbr_nbr])) (fun h => absurd (Finset.mem_univ _) h),
    nbr_nbr, if_pos rfl]

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => O₀_apply d (barCell c), Finset.sum_add_distrib,
    Finset.sum_add_distrib, Finset.sum_add_distrib]
  have h0 : (∑ d : Dev nD, Owe d 1 (barCell c) ()) = 0 := Finset.sum_eq_zero fun d _ => by
    rw [Owe_apply]; exact Finset.sum_eq_zero fun i _ => if_neg fun h => recv_ne_bar h.symm
  have h1 := sum_nbr c 0; have h2 := sum_nbr c 1; have h3 := sum_nbr c 2
  exact (congrArg₂ (· + ·) (congrArg₂ (· + ·) (congrArg₂ (· + ·) h0 h3) h2) h1)

theorem launch_recv (c : Dev nD) (s : Fin 12) (h : used c s) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_eq_single (srcD c s)]
  · rw [O₀_recv, Finset.sum_eq_single (srcI c s)]
    · rw [dst_src c s h, dsl_src c s h, if_pos rfl]
    · intro i _ hi; refine if_neg fun h' => hi ?_
      obtain ⟨h1, h2⟩ := recv_eq.mp h'
      have h3 := srcI_dst (srcD c s) i
      rw [← h1, ← h2] at h3; exact h3.symm
    · exact fun h => absurd (Finset.mem_univ _) h
  · intro d _ hd
    rw [O₀_recv]
    refine Finset.sum_eq_zero fun i _ => if_neg fun h' => hd ?_
    obtain ⟨h1, h2⟩ := recv_eq.mp h'
    rw [h1, h2, srcD_dst]
  · exact fun h => absurd (Finset.mem_univ _) h

omit [FloatOps F] in
/-- A device's credit: its neighbours' three signals, and what arrives in its slots. -/
theorem creds (c : Dev nD) : (Pipeline.launchCred O₀ c : sProp 𝕄)
    ⊢ iprop(cred (tallyAt (barCell c) () 3) ∗ bigSep Finset.univ fun s => if used c s then cred (tallyAt (recvCell c s) () N) else iprop(emp)) := by
  unfold Pipeline.launchCred
  rw [bigSep_univ_at _ (SemLoc.reg barS), launch_bar]
  refine sep_mono_right ?_
  have hsub : (Finset.univ.map ⟨fun s : Fin 12 => (SemLoc.dma (recvS s) : SemLoc sig), fun s s' h => by
      have := csem_injective (a₁ := some (.inr s)) (a₂ := some (.inr s')) h
      injection this with this; injection this⟩) ⊆ Finset.univ.erase (SemLoc.reg barS : SemLoc sig) := fun x hx => by
    obtain ⟨s, -, rfl⟩ := Finset.mem_map.mp hx
    exact Finset.mem_erase.mpr ⟨fun h => (nomatch h), Finset.mem_univ _⟩
  refine (bigSep_subset hsub).trans ?_
  rw [bigSep_map]
  refine bigSep_mono fun s _ => ?_
  show BIBase.Entails (PROP := sProp 𝕄) _ _
  by_cases h : used c s
  · rw [if_pos h, ← launch_recv c s h]; exact BI.Entails.refl _
  · rw [if_neg h]; iintro -; iempintro

/-! ## What a device starts with, and what it gives back -/

/-- A device's positions, tokens and credit, put together. -/
theorem start_of (c : Dev nD) : iprop(linear c ∗ Pipeline.launchCred O₀ c) ⊢ (Start c : sProp 𝕄) := by
  unfold linear toks Start
  rw [cells_split]
  iintro ⟨⟨⟨HB, HS, HV⟩, TB, TS, TV⟩, Hcr⟩
  ihave Hc := (creds (F := F) c) $$ Hcr
  icases Hc with ⟨H3, HN⟩
  isplitl [HB]; · iexact HB
  isplitl [H3]; · iexact H3
  isplitl [TB]; · iexact TB
  isplitl [HS TS TV]
  · rw [bigSep_sep', bigSep_sep']
    isplitl [HS]; · iexact HS
    isplitl [TS] <;> iassumption
  · rw [bigSep_sep']
    isplitl [HV] <;> iassumption

theorem close_bar : iprop(Cx X W K ∗ atPos ER (barCell c) 1 ∅ 0) ⊢ (|={Set.univ}=> semVal (barCell c) 0 : sProp 𝕄) := by
  unfold Cx
  iintro ⟨⟨HR, -⟩, H⟩
  iapply (Rounds.cell_close ER (rd X W) (Set.mem_univ (K (c, none))) (fun h => h) (R := 1) (duties_later X W (barCell c)))
  isplitl [HR]; · iapply (inv_of X W K c none); iexact HR
  iexact H
theorem close_send (i : Fin 7) : iprop(Cx X W K ∗ SD c i) ⊢ (|={Set.univ}=> (semVal (sendCell c i) 0 ∗ anyS c i) : sProp 𝕄) := by
  unfold Cx SD
  iintro ⟨⟨HR, -⟩, H, HS⟩
  imod (Rounds.cell_close ER (rd X W) (Set.mem_univ (K (c, some (.inl i)))) (fun h => h) (R := 1) (duties_later X W (sendCell c i))) $$ [HR H] with Hv
  · isplitl [HR]; · iapply (inv_of X W K c (some (.inl i))); iexact HR
    iexact H
  imodintro
  isplitl [Hv] <;> iassumption
theorem close_recv (s : Fin 12) : iprop(Cx X W K ∗ RD X W c s) ⊢ (|={Set.univ}=> (semVal (recvCell c s) 0 ∗ anyR c s) : sProp 𝕄) := by
  unfold Cx RD
  iintro ⟨⟨HR, -⟩, %R, %hR, H, HS⟩
  imod (Rounds.cell_close ER (rd X W) (Set.mem_univ (K (c, some (.inr s)))) (fun h => h) (R := R) hR) $$ [HR H] with Hv
  · isplitl [HR]; · iapply (inv_of X W K c (some (.inr s))); iexact HR
    iexact H
  imodintro
  isplitl [Hv] <;> iassumption

/-- What is left of a device when its body is done: its scratch buffers and its semaphores, all at zero. -/
def Left (c : Dev nD) : sProp 𝕄 :=
  iprop(semVal (barCell c) 0 ∗ ((bigSep Finset.univ fun i => semVal (sendCell c i) 0) ∗ bigSep Finset.univ fun s => semVal (recvCell c s) 0)
    ∗ (bigSep Finset.univ fun i => anyS c i) ∗ bigSep Finset.univ fun s => anyR c s)

theorem close : iprop(Cx X W K ∗ Done X W c) ⊢ (|={Set.univ}=> Left c : sProp 𝕄) := by
  unfold Done
  iintro ⟨#HC, HB, HS, HR⟩
  imod (close_bar X W K c) $$ [HB] with HB
  · isplitr; · iexact HC
    iexact HB
  imod ((bigSep_with (R := Cx X W K) (fun i _ => close_send X W K c i)).trans (bigSep_fupd _ _)) $$ [HS] with HS
  · isplitr; · iexact HC
    iexact HS
  imod ((bigSep_with (R := Cx X W K) (fun s _ => close_recv X W K c s)).trans (bigSep_fupd _ _)) $$ [HR] with HR
  · isplitr; · iexact HC
    iexact HR
  imodintro
  ihave HS := (Entails.of_eq (bigSep_sep' _ _ _)) $$ HS
  ihave HR := (Entails.of_eq (bigSep_sep' _ _ _)) $$ HR
  icases HS with ⟨HS, HS'⟩
  icases HR with ⟨HR, HR'⟩
  unfold Left
  isplitl [HB]; · iexact HB
  isplitl [HS HR]
  · isplitl [HS] <;> iassumption
  isplitl [HS'] <;> iassumption

end Cert.Run

end
-- ==== Proof.Launch.lean ====
/-
The kernel launched: every execution of the program ends, with each device's result as computed, its arguments as they
were and every semaphore at zero.
-/
module

public import proofs.«01_k».proof.Proof.Setup
public import Idealize.ShloMosaic.Lib.Pipeline.CollectiveSegs

@[expose] public section

noncomputable section

namespace Cert.Run

open Cert.KernelIdeal Cert.KernelIdeal.Gen Cert.Cube
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero. -/
def s₀ : MemSt nD τ sig (Elt F) := ⟨m, fun _ => 0, ρ⟩

/-- The two arguments of device `c`. -/
def xAt (c : Dev nD) : Vec F S1024x128 .f32 := (win0_0.blk (0 : Fin 1)).view.read (Elt F) ((s₀ m ρ).mem ((c : Thread nD τ).loc main_arg0))
def wAt (c : Dev nD) : Vec F S128x1024 .f32 := (win0_1.blk (0 : Fin 1)).view.read (Elt F) ((s₀ m ρ).mem ((c : Thread nD τ).loc main_arg1))
/-- The result of device `c`. -/
def resAt (c : Dev nD) : Vec F S128x1024 .f32 := outAt (xAt m ρ) (wAt m ρ) c

/-! ## The body's obligation -/

/-- What a device holds when the body starts, beside its arguments, -/
def start (c : Dev nD) : sProp 𝕄 := iprop(∃ K, Cx (xAt m ρ) (wAt m ρ) K ∗ Start c)
def Φ₀ (c : Dev nD) : sProp 𝕄 := iprop(start m ρ c ∗ (bigSep Finset.univ fun i => anyS c i) ∗ bigSep Finset.univ fun s => anyR c s)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => wAt m ρ c
    | ⟨2, _⟩ => resAt m ρ c
  Φ t := match t with
    | ⟨0, _⟩ => Φ₀ m ρ c
    | ⟨_ + 1, _⟩ => Left c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Left c ∗ (dats m ρ 0 c).owesAt () t0_0.succ ∗ stg c cc0_stg0_0 (xAt m ρ c) ∗ stg c cc0_stg1_0 (wAt m ρ c) ∗ stg c cc0_stg2_0 (resAt m ρ c))

theorem before_0 (c : Dev nD) (d) : (dats m ρ 0 c).before (0 : Fin 3) t0_0 d = xAt m ρ c := by
  unfold Dat.before; rw [if_pos (fetch_0 t0_0)]; rfl
theorem before_1 (c : Dev nD) (d) : (dats m ρ 0 c).before (1 : Fin 3) t0_0 d = wAt m ρ c := by
  unfold Dat.before; rw [if_pos (fetch_1 t0_0)]; rfl

set_option maxRecDepth 4000 in
theorem body_runs (c : Dev nD) : bodyPre m ρ c ⊢ wp frame (wpE (defs₀ (F := F)) 𝒱₀ (c : Thread nD τ) none) Set.univ
    (cc0_body xB (Memref.isWhole_whole _) wB (Memref.isWhole_whole _) oB (Memref.isWhole_whole _) sB (Memref.isWhole_whole _) rB (Memref.isWhole_whole _)
      cc0_scratch2 cc0_scratch3) (fun _ => bodyPost m ρ c) := by
  unfold bodyPre Φ₀ start
  simp only [before_0, before_1]
  unfold Dat.owesAt Pipeline.owesWithin
  iintro ⟨⟨⟨%K, #HC, Hs⟩, HS, HR⟩, ⟨%V, %hV, Ho⟩, ⟨%d0, %f0, %e0, Hx⟩, ⟨%d1, %f1, %e1, Hw⟩, ⟨%d2, %f2, %e2, Hout⟩⟩
  subst e0; subst e1
  iapply (Idealize.SL.Sem.wp_fupd _ _)
  iapply (sound (xAt m ρ) (wAt m ρ) K c V) $$ [Hs HS HR Ho Hx Hw Hout]
  · isplitr; · iexact HC
    isplitl [Hs]; · iexact Hs
    isplitl [HS]; · iexact HS
    isplitl [HR]; · iexact HR
    isplitl [Ho]; · iexact Ho
    isplitl [Hx]; · unfold Hx; iexact Hx
    isplitl [Hw]; · unfold Hw; iexact Hw
    unfold Ho; iexists _; iexact Hout
  unfold Hx Hw Hr
  iintro ⟨HD, ⟨%V', HO⟩, Hx, Hw, Hr⟩
  imod (close (xAt m ρ) (wAt m ρ) K c) $$ [HD] with HL
  · isplitr; · iexact HC
    iexact HD
  imodintro
  unfold bodyPost Dat.owesAt Pipeline.owesWithin
  rw [show (dats m ρ 0 c).owed t0_0.succ = 0 from rfl]
  isplitl [HL]; · iexact HL
  isplitl [HO]
  · iexists V'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hr

set_option maxRecDepth 4000 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  simp only [owns_whole_eq]
  exact body_runs m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xAt m ρ) (wAt m ρ) c)
      ⊢ |={Set.univ}=> iprop(start m ρ c ∗ emp) := by
  unfold start G'
  iintro ⟨-, #Hlev, Hcr, -, ⟨%K, #HR, Hl⟩⟩
  imodintro
  isplitl
  · iexists K
    isplitr
    · unfold Cx; isplitr; · iexact HR
      iexact Hlev
    iapply (start_of c)
    isplitl [Hl] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, HS, HR⟩
  isplitl [Hs]; · iexact Hs
  isplitl [HS]; · iapply (split_send c); iexact HS
  iapply (split_recv c); iexact HR

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Left c from rfl, scopedRest0_eq, ownSems0_eq, unscopedSems0_eq]
  unfold Left
  iintro ⟨HB, HV, HS, HR⟩
  isplitl [HB]; · iexact HB
  isplitl [HV]; · iexact HV
  isplitl [HS]; · iapply (join_send c); iexact HS
  iapply (join_recv c); iexact HR

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- Every window's array holds what the pipeline leaves in it. -/
def QC : PUnit × MemSt nD τ sig (Elt F) → Prop := fun r =>
  ∀ c : Dev nD, ∀ w : Fin cfg0.W, r.2.mem ((cfg0.win w).arr.view.loc (c : Thread nD τ)) = (dats m ρ 0 c).arrAt w cfg0.N

set_option maxRecDepth 8000 in
/-- Every execution of the program on the eight devices ends, with the arrays as the pipeline leaves them and every
    semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xAt m ρ) (wAt m ρ)) (G' := G' (xAt m ρ) (wAt m ρ)) (u₀ := u₀)
    (hu₀ := by
      unfold u₀
      iintro Hu
      ihave H := (ownU_pair _ _) $$ Hu
      icases H with ⟨HP, HX⟩
      imod (fund_ring (xAt m ρ) (wAt m ρ)) $$ HX with HG
      imodintro
      isplitl [HP] <;> iassumption)
    (hglob := glob (xAt m ρ) (wAt m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were; -/
theorem kept_x (c : Dev nD) : (dats m ρ 0 c).arrAt (0 : Fin 3) cfg0.N = m ((c : Thread nD τ).loc main_arg0) := (dats m ρ 0 c).arrAt_in (0 : Fin 3) rfl _
theorem kept_w (c : Dev nD) : (dats m ρ 0 c).arrAt (1 : Fin 3) cfg0.N = m ((c : Thread nD τ).loc main_arg1) := (dats m ρ 0 c).arrAt_in (1 : Fin 3) rfl _

end Cert.Run

end
-- ==== Proof.Value.lean ====
/-
The kernel's result over the extended reals: the eight devices' partial products of a block of rows, added in the order
in which they meet, and the gate applied to their sum.
-/
module

public import proofs.«01_k».proof.Proof.Launch
public import proofs.«01_k».proof.Proof.Gen.ReferenceIdeal
public import Idealize.ShloMosaic.Lib.MatmulPlain
public import Idealize.ShloMosaic.Lib.StackMember
public import Idealize.ShloMosaic.Lib.Layout
public import Idealize.ShloMosaic.Lib.Pipeline.Value

@[expose] public section

noncomputable section

namespace Cert.Run

open Cert.KernelIdeal Cert.KernelIdeal.Gen Cert.Cube
open Idealize.ShloMosaic Idealize.ShloMosaic.ValueIdx
open Idealize.ShloMosaic.TcCoe
open scoped BigOperators

/-! ## The payloads -/

/-- What a slot holds, as a matrix of extended reals. -/
def flat (v : FVec Ideal S1x128x1024 .bf16) : S128x1024.Idx → EReal := shapeCast S128x1024 v shapeCasts_S1x128x1024_S128x1024

/-- A partial product as it is stored for sending is the partial product; -/
theorem flat_pay6 (a : Vec Ideal S128x128 .f32) (b : Vec Ideal S128x1024 .f32) : flat (k0_pay6 a b) = k0_pay15 a b := by
  unfold flat k0_pay6 k0_pay15
  rw [shapeCast_shapeCast]
  rfl

/-- two slots added are their sum; -/
theorem flat_pay16 (a b : FVec Ideal S1x128x1024 .bf16) (i : S128x1024.Idx) : flat (k0_pay16 a b) i = flat a i + flat b i := by
  unfold flat k0_pay16
  rw [shapeCast_shapeCast]
  rfl

/-- The gate: `y` times the logistic function of `y`. -/
def gate (y : EReal) : EReal := y * Ideal.logistic y

/-- the result is the gate of a device's own partial product and of what arrived in its three last slots. -/
theorem pay25_apply (y : FVec Ideal S128x1024 .f32) (a b d : FVec Ideal S1x128x1024 .bf16) (i : S128x1024.Idx) :
    k0_pay25 y a b d i = gate (y i + (flat a i + flat b i + flat d i)) := rfl

/-! ## Which partial products meet on a device -/

/-- The devices, in the order in which their partial products for `c` are added: its own, the one that arrives in the
    first round, the two that arrive in the second, the four that arrive in the third. -/
def adds (c : Dev nD) : Fin 8 → Dev nD := fun k => match k.val with
  | 0 => c
  | 1 => srcD c 0
  | 2 => srcD c 1
  | 3 => srcD (srcD c 1) (first (srcI c 1))
  | 4 => srcD c 2
  | 5 => srcD (srcD c 2) (first (srcI c 2))
  | 6 => srcD (srcD c 2) (second (srcI c 2))
  | _ => srcD (srcD (srcD c 2) (second (srcI c 2))) (first (srcI (srcD c 2) (second (srcI c 2))))

/-- Each device is among them exactly once. -/
theorem adds_bijective : ∀ c, Function.Bijective (adds c) := by decide +kernel

/-- What each of the seven others adds is its partial product for `c`. -/
theorem adds_target : ∀ c : Dev nD,
    across (srcD c 0) ((srcI c 0).val + 1) = c ∧ across (srcD c 1) ((srcI c 1).val + 1) = c
    ∧ across (srcD (srcD c 1) (first (srcI c 1))) ((srcI (srcD c 1) (first (srcI c 1))).val + 1) = c
    ∧ across (srcD c 2) ((srcI c 2).val + 1) = c
    ∧ across (srcD (srcD c 2) (first (srcI c 2))) ((srcI (srcD c 2) (first (srcI c 2))).val + 1) = c
    ∧ across (srcD (srcD c 2) (second (srcI c 2))) ((srcI (srcD c 2) (second (srcI c 2))).val + 1) = c
    ∧ across (srcD (srcD (srcD c 2) (second (srcI c 2))) (first (srcI (srcD c 2) (second (srcI c 2))))) ((srcI (srcD (srcD c 2) (second (srcI c 2))) (first (srcI (srcD c 2) (second (srcI c 2))))).val + 1) = c := by decide +kernel

/-- The round in which the three last slots of a device are filled. -/
theorem last_depth : ∀ c : Dev nD, depth (srcD c 0) ((srcI c 0).val + 1) = 0 ∧ depth (srcD c 1) ((srcI c 1).val + 1) = 1
    ∧ depth (srcD c 2) ((srcI c 2).val + 1) = 2 := by decide +kernel

variable (X : Dev nD → Vec Ideal S1024x128 .f32) (W : Dev nD → Vec Ideal S128x1024 .f32)

/-- The part of device `d` in the rows of the product that device `t` ends with. -/
def part (d t : Dev nD) : S128x1024.Idx → EReal := k0_pay15 (xrows t (X d)) (W d)

theorem flat_lv0 {c t : Dev nD} {i : Fin 7} (h : across c (i.val + 1) = t) : flat (lv0 X W c i) = part X W c t := by
  subst h; exact flat_pay6 _ _

theorem landed_0 (c : Dev nD) (j : S128x1024.Idx) : flat (landed X W c 0) j = part X W (adds c 1) c j := by
  rw [landed, sent_zero X W (last_depth c).1, flat_lv0 X W (adds_target c).1]; rfl

theorem landed_1 (c : Dev nD) (j : S128x1024.Idx) :
    flat (landed X W c 1) j = part X W (adds c 2) c j + part X W (adds c 3) c j := by
  rw [landed, show sent X W (srcD c 1) (srcI c 1) = lv1 X W (srcD c 1) (srcI c 1) by
      unfold sent; rw [if_neg (by rw [(last_depth c).2.1]; decide), if_pos (last_depth c).2.1],
    lv1, flat_pay16, flat_lv0 X W (adds_target c).2.1,
    flat_lv0 X W (t := c) (adds_target c).2.2.1]
  rfl

theorem landed_2 (c : Dev nD) (j : S128x1024.Idx) :
    flat (landed X W c 2) j = (part X W (adds c 4) c j + part X W (adds c 5) c j)
      + (part X W (adds c 6) c j + part X W (adds c 7) c j) := by
  rw [landed, show sent X W (srcD c 2) (srcI c 2) = lv2 X W (srcD c 2) (srcI c 2) by
      unfold sent
      rw [if_neg (by rw [(last_depth c).2.2]; decide), if_neg (by rw [(last_depth c).2.2]; decide)],
    lv2, flat_pay16, lv1, lv1, flat_pay16, flat_pay16, flat_lv0 X W (adds_target c).2.2.2.1,
    flat_lv0 X W (t := c) (adds_target c).2.2.2.2.1, flat_lv0 X W (t := c) (adds_target c).2.2.2.2.2.1,
    flat_lv0 X W (t := c) (adds_target c).2.2.2.2.2.2]
  rfl

/-- A sum over the devices, in that order. -/
theorem sum_adds (c : Dev nD) (f : Dev nD → EReal) :
    f (adds c 0) + (f (adds c 1) + (f (adds c 2) + f (adds c 3)) + ((f (adds c 4) + f (adds c 5)) + (f (adds c 6) + f (adds c 7))))
      = ∑ d, f d := by
  rw [← (adds_bijective c).sum_comp f, Fin.sum_univ_eight]
  ac_rfl

/-- The result of device `c`: the gate of the sum of all eight devices' parts. -/
theorem outAt_apply (c : Dev nD) (j : S128x1024.Idx) : outAt X W c j = gate (∑ d, part X W d c j) := by
  rw [← sum_adds c (fun d => part X W d c j), outAt, pay25_apply, landed_0, landed_1, landed_2]
  rfl

/-! ## The parts as sums of products -/

theorem xrows_apply (t : Dev nD) (f : Vec Ideal S1024x128 .f32) (r k : Fin 128) :
    xrows t f (ix2 r k) = f (ix2 (⟨128 * t.val + r.val, by have := t.isLt; change t.val < 8 at this; omega⟩ : Fin 1024) k) := by
  unfold xrows
  refine congrArg f ?_
  funext a; apply Fin.ext
  match a with
  | ⟨0, _⟩ => exact congrArg (128 * t.val + ·) (Nat.one_mul _)
  | ⟨1, _⟩ => exact (congrArg (0 + ·) (Nat.one_mul _)).trans (Nat.zero_add _)

theorem part_apply (d t : Dev nD) (r : Fin 128) (l : Fin 1024) :
    part X W d t (ix2 r l) = ∑ k : Fin 128,
      X d (ix2 (⟨128 * t.val + r.val, by have := t.isLt; change t.val < 8 at this; omega⟩ : Fin 1024) k) * W d (ix2 k l) := by
  unfold part k0_pay15
  rw [shapeCast_self, shapeCast_self,
    show dot_S128x128_S128x1024_S128x1024_1_0_0_1_n_n = DotDims.plain 128 128 1024 from rfl]
  refine (Ideal.matmul_plain_apply (φ₁ := .f32) (φ₂ := .f32) none _ _ _ r l).trans ?_
  rw [show (constant (F := Ideal) S128x1024 .f32 0x00000000#32) (ix2 r l) = (0 : EReal) from Ideal.ofBits_zero_f32, zero_add]
  exact Finset.sum_congr rfl fun k _ => by rw [xrows_apply]

/-- A sum over the contracted coordinate, cut in the eight parts that the devices hold. -/
theorem sum_cut (f : Fin 1024 → EReal) :
    ∑ K, f K = ∑ d : Fin 8, ∑ k : Fin 128, f ⟨128 * d.val + k.val, by have := d.isLt; omega⟩ := by
  rw [← (finProdFinEquiv (m := 8) (n := 128)).sum_comp f, Fintype.sum_prod_type]
  exact Finset.sum_congr rfl fun d _ => Finset.sum_congr rfl fun k _ => congrArg f (Fin.ext (Nat.add_comm _ _))

end Cert.Run

end
-- ==== Proof.Bridge.lean ====
/-
The block of the reference's result that a device holds, against that device's result.
-/
module

public import proofs.«01_k».proof.Proof.Value
public import proofs.«01_k».proof.Proof.Gen.ReferenceIdeal.Run
public import Idealize.ShloMosaic.Lib.IdealHost

@[expose] public section

noncomputable section

namespace Cert.Run

open Cert.KernelIdeal Cert.KernelIdeal.Gen Cert.Cube
open Idealize.ShloMosaic Idealize.ShloMosaic.ValueIdx
open Idealize.ShloMosaic.TcCoe
open scoped BigOperators

abbrev Whole : Shape := ⟨2, ![1024, 1024]⟩

/-- The reference's result as a function of its arguments: the product over one plus the exponential of its negative. -/
def refOut (x w : FVec Ideal Whole .f32) : FVec Ideal Whole .f32 :=
  Host.divf (Host.dotGeneral Cert.ReferenceIdeal.dot_S1024x1024_S1024x1024_S1024x1024_1_0_0_1_n_n none x w)
    (addf (broadcastInDim Whole ![] Cert.ReferenceIdeal.Facts₀.bcast_S_S1024x1024 (constant Cert.ReferenceIdeal.S_ .f32 0x3F800000#32))
      (Host.exp (Host.negf (Host.dotGeneral Cert.ReferenceIdeal.dot_S1024x1024_S1024x1024_S1024x1024_1_0_0_1_n_n none x w))))

/-- One plus an exponential is not zero, also at the infinities. -/
theorem one_add_exp_ne_zero (y : EReal) : (1 : EReal) + Ideal.exp y ≠ 0 := by
  have h : (0 : EReal) ≤ Ideal.exp y := by
    induction y with
    | bot => exact le_rfl
    | top => exact le_top
    | coe r => exact EReal.coe_nonneg.2 (Real.exp_pos r).le
  exact (lt_of_lt_of_le zero_lt_one (le_add_of_nonneg_right h)).ne'

/-- The kernel's gate is the reference's quotient. -/
theorem gate_eq (y : EReal) : gate y = Ideal.div y (1 + Ideal.exp (-y)) := by
  rw [gate, Ideal.logistic, Ideal.div, Ideal.div, if_neg (one_add_exp_ne_zero _), if_neg (one_add_exp_ne_zero _), one_mul]

/-- The reference's result, entry by entry. -/
theorem refOut_apply (x w : FVec Ideal Whole .f32) (a b : Fin 1024) :
    refOut x w (ix2 a b) = gate (∑ K : Fin 1024, x (ix2 a K) * w (ix2 K b)) := by
  rw [gate_eq, ← StackMember.dotGeneral_plain_apply (φ₁ := .f32) (φ₂ := .f32) none x w a b]
  show Ideal.div _ (Ideal.ofBits .f32 0x3F800000#32 + _) = _
  rw [Ideal.ofBits_one_f32]
  rfl

variable (x w : FVec Ideal Whole .f32)

/-- When every device holds its block of the whole arguments, device `c` computes its block of the reference's result. -/
theorem outAt_block (X : Dev nD → Vec Ideal S1024x128 .f32) (W : Dev nD → Vec Ideal S128x1024 .f32)
    (hx : Layout.Tiles S1024x128 Whole 1 8) (hw : Layout.Tiles S128x1024 Whole 0 8)
    (hX : ∀ c, X c = Layout.block S1024x128 Whole 1 8 c x hx) (hW : ∀ c, W c = Layout.block S128x1024 Whole 0 8 c w hw) (c : Dev nD) :
    outAt X W c = Layout.block S128x1024 Whole 0 8 c (refOut x w) hw := by
  funext j
  obtain ⟨r, l, rfl⟩ : ∃ (r : Fin 128) (l : Fin 1024), j = ix2 r l := ⟨j 0, j 1, eq_ix2 j⟩
  have hc : 128 * c.val + r.val < 1024 := by have := c.isLt; change c.val < 8 at this; omega
  have hj : hw.idx c (ix2 r l) = ix2 (⟨128 * c.val + r.val, hc⟩ : Fin 1024) l :=
    funext fun a => Fin.ext <| match a with
      | ⟨0, _⟩ => congrArg (· + r.val) (Nat.mul_comm c.val 128)
      | ⟨1, _⟩ => rfl
  rw [outAt_apply, Layout.block_apply, hj, refOut_apply, sum_cut]
  refine congrArg gate (Finset.sum_congr rfl fun d _ => ?_)
  rw [part_apply]
  refine Finset.sum_congr rfl fun k _ => ?_
  rw [hX, hW, Layout.block_apply, Layout.block_apply]
  have e1 : hx.idx d (ix2 (⟨128 * c.val + r.val, hc⟩ : Fin 1024) k)
      = ix2 (⟨128 * c.val + r.val, hc⟩ : Fin 1024) (⟨128 * d.val + k.val, by have := d.isLt; change d.val < 8 at this; omega⟩ : Fin 1024) :=
    funext fun a => Fin.ext <| match a with
      | ⟨0, _⟩ => rfl
      | ⟨1, _⟩ => congrArg (· + k.val) (Nat.mul_comm d.val 128)
  have e2 : hw.idx d (ix2 k l) = ix2 (⟨128 * d.val + k.val, by have := d.isLt; change d.val < 8 at this; omega⟩ : Fin 1024) l :=
    funext fun a => Fin.ext <| match a with
      | ⟨0, _⟩ => congrArg (· + k.val) (Nat.mul_comm d.val 128)
      | ⟨1, _⟩ => rfl
  exact congrArg₂ (· * ·) (congrArg x e1) (congrArg w e2)

/-! ## The arrays -/

section Arrays

variable {F : FTy → Type} [FloatOps F] (m : (ℓ : Loc nD τ sig) → Buf (Elt F) ℓ) (ρ : Dev nD → PrngReg)

/-- The staged arguments are the whole arrays; -/
theorem xAt_eq (c : Dev nD) : xAt m ρ c = m ((c : Thread nD τ).loc main_arg0) :=
  Memref.read_access_unit_zero (Elt F) main_arg0 (funext fun a => by fin_cases a <;> decide) (fun a => by fin_cases a <;> decide) _
theorem wAt_eq (c : Dev nD) : wAt m ρ c = m ((c : Thread nD τ).loc main_arg1) :=
  Memref.read_access_unit_zero (Elt F) main_arg1 (funext fun a => by fin_cases a <;> decide) (fun a => by fin_cases a <;> decide) _

/-- the result's array ends as the body's result. -/
theorem arr_out (c : Dev nD) : (dats m ρ 0 c).arrAt (2 : Fin 3) cfg0.N = resAt m ρ c := by
  have h : (win0_2.blk (0 : Fin 1)).view.read (Elt F) ((dats m ρ 0 c).arrAt (2 : Fin 3) cfg0.N) = resAt m ρ c := by
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  exact (Memref.read_access_unit_zero (Elt F) main_v1 (funext fun a => by fin_cases a <;> decide) (fun a => by fin_cases a <;> decide) _).symm.trans h

end Arrays

end Cert.Run

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Bridge
public import Idealize.ShloMosaic.Adequacy
public import Idealize.ShloMosaic.Init

@[expose] public section

noncomputable section

namespace Cert.Proof

open Idealize.ShloMosaic Idealize.SL.Sem

/-- The two readings of the kernel have the same bodies, at any floats; -/
theorem defs₀_eq : Cert.Kernel.defs₀ (F := Bits) = Cert.KernelIdeal.defs₀ (F := Bits) := by
  unfold Cert.Kernel.defs₀ Cert.KernelIdeal.defs₀
  congr 1
  funext ℓ a
  match ℓ, a with
  | 0, (_, _) => rfl

/-- and the same tables of them. -/
theorem defs_eq : Cert.Kernel.defs (F := Bits) = Cert.KernelIdeal.defs (F := Bits) := by
  unfold Cert.Kernel.defs Cert.KernelIdeal.defs
  rw [defs₀_eq]
  rfl

/-- The kernel runs to the end from any memory with its counters zero, keeps its arguments and leaves every counter zero:
    the run proved of the program read over the extended reals, whose text is the same, taken at the machine's floats; -/
theorem frame_kernel : Cert.quiescent_Kernel := fun m ρ _ => by
  rw [defs_eq]
  exact (θ_run Cert.KernelIdeal.defs _ _).mono
    (fun _ h => ⟨fun c => ⟨(h.1 c (0 : Fin 3)).trans (Cert.Run.kept_x m ρ c), (h.1 c (1 : Fin 3)).trans (Cert.Run.kept_w m ρ c)⟩, h.2⟩)
    (Cert.Run.run_main (F := Bits) m ρ)

/-- over the extended reals as well; -/
theorem frame_kernelIdeal : Cert.quiescent_KernelIdeal := fun m ρ _ =>
  (θ_run Cert.KernelIdeal.defs _ _).mono
    (fun _ h => ⟨fun c => ⟨(h.1 c (0 : Fin 3)).trans (Cert.Run.kept_x m ρ c), (h.1 c (1 : Fin 3)).trans (Cert.Run.kept_w m ρ c)⟩, h.2⟩)
    (Cert.Run.run_main (F := Ideal) m ρ)

/-- and so does the reference. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, from arguments of which each device holds its block, every device ends with its block of the
    reference's result. -/
theorem algebraic : Cert.algebraic_KernelIdeal_ReferenceIdeal := by
  intro m ρ m' ρ' _ hagree
  refine ⟨Cert.Run.refOut (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨(h.1 c (2 : Fin 3)).trans ?_,
      (h.1 c (0 : Fin 3)).trans (Cert.Run.kept_x m ρ c), (h.1 c (1 : Fin 3)).trans (Cert.Run.kept_w m ρ c)⟩)
      (Cert.Run.run_main (F := Ideal) m ρ)
    rw [Cert.Run.arr_out, Cert.Run.resAt]
    exact Cert.Run.outAt_block _ _ _ _ _ _ (fun d => (Cert.Run.xAt_eq m ρ d).trans (hagree d).1)
      (fun d => (Cert.Run.wAt_eq m ρ d).trans (hagree d).2) c
  · exact (θ_run Cert.ReferenceIdeal.defs _ _).mono (fun _ h => h 0) (Cert.ReferenceIdeal.Value.run (F := Ideal) m' ρ')

/-- The five claims. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
